-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pack.Statement Cert.KernelIdeal.S1024x256

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x256 : Shape := ⟨3, ![8, 1024, 256]⟩
abbrev S3x1024x256 : Shape := ⟨3, ![3, 1024, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S3x1024x256 : S_.BroadcastsInDim S3x1024x256 (![] : Fin 0 → Fin S3x1024x256.rank)
  reducesTo_S3x1024x256_S_d0_1_2 : S3x1024x256.ReducesTo [0, 1, 2] S_

variable [Facts]

def fn {F : FTy → Type} [FloatOps F] (main_arg0 : FVec F S8x1024x256 .f32) (main_arg1 : FVec F S3x1024x256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S3x1024x256 .f32 := Host.absf main_arg1
  let main_cst_0 : FVec F S_ .f32 := constant S_ .f32 0x7F800000#32
  let main_v5 : FVec F S3x1024x256 .f32 := broadcastInDim S3x1024x256 ![] bcast_S_S3x1024x256 main_cst_0
  let main_v6 : IVec S3x1024x256 1 := cmpf .olt main_v4 main_v5
  let main_c_1 : IVec S_ 1 := constantI S_ 1 1#1
  let main_v7 : IVec S_ 1 := (fun x v => Host.reduce IntOp.andi x v reducesTo_S3x1024x256_S_d0_1_2 h_S_) main_v6 main_c_1
  let main_v8 : IVec S_ 1 := andi main_v3 main_v7
  main_v8
-- ==== Kernel.lean ====
abbrev S8x1024x256 : Shape := ⟨3, ![8, 1024, 256]⟩
abbrev S3x1024x256 : Shape := ⟨3, ![3, 1024, 256]⟩
abbrev S8192x256 : Shape := ⟨2, ![8192, 256]⟩
abbrev S4x2048x1 : Shape := ⟨3, ![4, 2048, 1]⟩
abbrev S1x1 : Shape := ⟨2, ![1, 1]⟩
abbrev S2048x256 : Shape := ⟨2, ![2048, 256]⟩
abbrev S1x2048x1 : Shape := ⟨3, ![1, 2048, 1]⟩
abbrev S3x1024 : Shape := ⟨2, ![3, 1024]⟩
abbrev S3x1024x768 : Shape := ⟨3, ![3, 1024, 768]⟩
abbrev S1x1024x256 : Shape := ⟨3, ![1, 1024, 256]⟩
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1x1024x768 : Shape := ⟨3, ![1, 1024, 768]⟩
abbrev S1024x768 : Shape := ⟨2, ![1024, 768]⟩
abbrev S1x1024x1 : Shape := ⟨3, ![1, 1024, 1]⟩
abbrev S1 : Shape := ⟨1, ![1]⟩
abbrev S1x1x1 : Shape := ⟨3, ![1, 1, 1]⟩
abbrev S8x1024 : Shape := ⟨2, ![8, 1024]⟩
abbrev S3 : Shape := ⟨1, ![3]⟩
abbrev S1x3 : Shape := ⟨2, ![1, 3]⟩

abbrev nBuf : Space → Nat
  | .hbm => 7
  | .vmem => 12
  | .smem => 0
  | _ => 0

abbrev bufTy : (tb : Table) → Fin (tcTables nBuf tb) → BufTy
  | .hbm, ⟨0, _⟩ => ⟨S8x1024x256, .f32⟩
  | .hbm, ⟨1, _⟩ => ⟨S3x1024x256, .f32⟩
  | .hbm, ⟨2, _⟩ => ⟨S8192x256, .f32⟩
  | .hbm, ⟨3, _⟩ => ⟨S8192x256, .f32⟩
  | .hbm, ⟨4, _⟩ => ⟨S4x2048x1, .i32⟩
  | .hbm, ⟨5, _⟩ => ⟨S1x1, .f32⟩
  | .hbm, ⟨6, _⟩ => ⟨S1x1, .f32⟩
  | .local _ .vmem, ⟨0, _⟩ => ⟨S2048x256, .f32⟩
  | .local _ .vmem, ⟨1, _⟩ => ⟨S2048x256, .f32⟩
  | .local _ .vmem, ⟨2, _⟩ => ⟨S3x1024x256, .f32⟩
  | .local _ .vmem, ⟨3, _⟩ => ⟨S2048x256, .f32⟩
  | .local _ .vmem, ⟨4, _⟩ => ⟨S2048x256, .f32⟩
  | .local _ .vmem, ⟨5, _⟩ => ⟨S1x2048x1, .i32⟩
  | .local _ .vmem, ⟨6, _⟩ => ⟨S1x2048x1, .i32⟩
  | .local _ .vmem, ⟨7, _⟩ => ⟨S1x1, .f32⟩
  | .local _ .vmem, ⟨8, _⟩ => ⟨S1x1, .f32⟩
  | .local _ .vmem, ⟨9, _⟩ => ⟨S3x1024, .f32⟩
  | .local _ .vmem, ⟨10, _⟩ => ⟨S3x1024x768, .bf16⟩
  | .local _ .vmem, ⟨11, _⟩ => ⟨S3x1024, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v333 : BitVec 1 := Scalar.cmpi .eq arg0 c3_i32
  let v334 : BitVec 32 := Scalar.extui v333
  let c0_i32_129 : BitVec 32 := 0#32
  let v335 : BitVec 1 := Scalar.cmpi .ne v334 c0_i32_129
  v335

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F]
-- ==== ReferenceIdeal.lean ====
abbrev S8x1024x256 : Shape := ⟨3, ![8, 1024, 256]⟩
abbrev S3x1024x256 : Shape := ⟨3, ![3, 1024, 256]⟩
abbrev S8192x256 : Shape := ⟨2, ![8192, 256]⟩
abbrev S_ : Shape := ⟨0, ![]⟩
abbrev S1x1024x256 : Shape := ⟨3, ![1, 1024, 256]⟩
abbrev S1024x256 : Shape := ⟨2, ![1024, 256]⟩
abbrev S8192 : Shape := ⟨1, ![8192]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x1024 : Shape := ⟨2, ![8, 1024]⟩
abbrev S4x2048x1 : Shape := ⟨3, ![4, 2048, 1]⟩

abbrev nBuf : Space → Nat
  | .hbm => 268
  | .vmem => 0
  | .smem => 0
  | _ => 0

abbrev hbmTy0_0 (i : Nat) : BufTy := match i % 128 with
  | 0 => ⟨S8x1024x256, .f32⟩
  | 1 => ⟨S3x1024x256, .f32⟩
  | 2 => ⟨S8192x256, .f32⟩
  | 3 => ⟨S_, .f32⟩
  | 4 => ⟨S8192x256, .f32⟩
  | 5 => ⟨S1x1024x256, .f32⟩
  | 6 => ⟨S1024x256, .f32⟩
  | 7 => ⟨S8192x256, .f32⟩
  | 8 => ⟨S_, .f32⟩
  | 9 => ⟨S8192, .f32⟩
  | 10 => ⟨S8192x1, .f32⟩
  | 11 => ⟨S_, .f32⟩
  | 12 => ⟨S8192x256, .f32⟩
  | 13 => ⟨S8192x256, .f32⟩
  | 14 => ⟨S256x1024, .f32⟩
  | 15 => ⟨S8192x1024, .f32⟩
  | 16 => ⟨S8192x1024, .f32⟩
  | 17 => ⟨S8192x1024, .f32⟩
  | 18 => ⟨S1024x256, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S8192x1024, .i32⟩
  | 25 => ⟨S_, .f32⟩
  | 26 => ⟨S_, .i32⟩
  | 27 => ⟨S8192, .f32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S1, .i32⟩
  | 38 => ⟨S_, .i32⟩
  | 39 => ⟨S8192x1, .i32⟩
  | 40 => ⟨S8192x1, .i1⟩
  | 41 => ⟨S1x1, .i32⟩
  | 42 => ⟨S8192x1, .i32⟩
  | 43 => ⟨S8192x1, .i1⟩
  | 44 => ⟨S8192x1, .i1⟩
  | 45 => ⟨S_, .i1⟩
  | 46 => ⟨S8192, .i1⟩
  | 47 => ⟨S8192x256, .f32⟩
  | 48 => ⟨S8192x256, .i1⟩
  | 49 => ⟨S_, .f32⟩
  | 50 => ⟨S8192x256, .f32⟩
  | 51 => ⟨S8192x256, .f32⟩
  | 52 => ⟨S8192x256, .f32⟩
  | 53 => ⟨S8192x256, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S8192x256, .f32⟩
  | 63 => ⟨S8192x256, .f32⟩
  | 64 => ⟨S8192x1, .i32⟩
  | 65 => ⟨S1x1024, .i32⟩
  | 66 => ⟨S8192x1024, .i32⟩
  | 67 => ⟨S8192x1024, .i32⟩
  | 68 => ⟨S8192x1024, .i1⟩
  | 69 => ⟨S8192x1024, .f32⟩
  | 70 => ⟨S_, .f32⟩
  | 71 => ⟨S1024, .f32⟩
  | 72 => ⟨S_, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x1024x256, .f32⟩
  | 87 => ⟨S1024x256, .f32⟩
  | 88 => ⟨S8192x256, .f32⟩
  | 89 => ⟨S_, .f32⟩
  | 90 => ⟨S8192, .f32⟩
  | 91 => ⟨S8192x1, .f32⟩
  | 92 => ⟨S_, .f32⟩
  | 93 => ⟨S8192x256, .f32⟩
  | 94 => ⟨S8192x256, .f32⟩
  | 95 => ⟨S256x1024, .f32⟩
  | 96 => ⟨S8192x1024, .f32⟩
  | 97 => ⟨S8192x1024, .f32⟩
  | 98 => ⟨S8192x1024, .f32⟩
  | 99 => ⟨S1024x256, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S8192x1024, .i32⟩
  | 106 => ⟨S_, .f32⟩
  | 107 => ⟨S_, .i32⟩
  | 108 => ⟨S8192, .f32⟩
  | 109 => ⟨S8192, .i32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S1, .i32⟩
  | 119 => ⟨S_, .i32⟩
  | 120 => ⟨S8192x1, .i32⟩
  | 121 => ⟨S8192x1, .i1⟩
  | 122 => ⟨S1x1, .i32⟩
  | 123 => ⟨S8192x1, .i32⟩
  | 124 => ⟨S8192x1, .i1⟩
  | 125 => ⟨S8192x1, .i1⟩
  | 126 => ⟨S_, .i1⟩
  | 127 => ⟨S8192, .i1⟩
  | _ => ⟨S8x1024x256, .f32⟩

abbrev hbmTy0_1 (i : Nat) : BufTy := match i % 128 with
  | 0 => ⟨S8192x256, .f32⟩
  | 1 => ⟨S8192x256, .i1⟩
  | 2 => ⟨S_, .f32⟩
  | 3 => ⟨S8192x256, .f32⟩
  | 4 => ⟨S8192x256, .f32⟩
  | 5 => ⟨S8192x256, .f32⟩
  | 6 => ⟨S8192x256, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S8192x256, .f32⟩
  | 15 => ⟨S8192x256, .f32⟩
  | 16 => ⟨S8192x1, .i32⟩
  | 17 => ⟨S1x1024, .i32⟩
  | 18 => ⟨S8192x1024, .i32⟩
  | 19 => ⟨S8192x1024, .i32⟩
  | 20 => ⟨S8192x1024, .i1⟩
  | 21 => ⟨S8192x1024, .f32⟩
  | 22 => ⟨S_, .f32⟩
  | 23 => ⟨S1024, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024, .f32⟩
  | 31 => ⟨S1024, .f32⟩
  | 32 => ⟨S_, .f32⟩
  | 33 => ⟨S_, .f32⟩
  | 34 => ⟨S_, .f32⟩
  | 35 => ⟨S_, .f32⟩
  | 36 => ⟨S_, .f32⟩
  | 37 => ⟨S1x1024x256, .f32⟩
  | 38 => ⟨S1024x256, .f32⟩
  | 39 => ⟨S8192x256, .f32⟩
  | 40 => ⟨S_, .f32⟩
  | 41 => ⟨S8192, .f32⟩
  | 42 => ⟨S8192x1, .f32⟩
  | 43 => ⟨S_, .f32⟩
  | 44 => ⟨S8192x256, .f32⟩
  | 45 => ⟨S8192x256, .f32⟩
  | 46 => ⟨S256x1024, .f32⟩
  | 47 => ⟨S8192x1024, .f32⟩
  | 48 => ⟨S8192x1024, .f32⟩
  | 49 => ⟨S8192x1024, .f32⟩
  | 50 => ⟨S1024x256, .f32⟩
  | 51 => ⟨S_, .f32⟩
  | 52 => ⟨S1024, .f32⟩
  | 53 => ⟨S1x1024, .f32⟩
  | 54 => ⟨S8192x1024, .f32⟩
  | 55 => ⟨S8192x1024, .f32⟩
  | 56 => ⟨S8192x1024, .i32⟩
  | 57 => ⟨S_, .f32⟩
  | 58 => ⟨S_, .i32⟩
  | 59 => ⟨S8192, .f32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S1, .i32⟩
  | 70 => ⟨S_, .i32⟩
  | 71 => ⟨S8192x1, .i32⟩
  | 72 => ⟨S8192x1, .i1⟩
  | 73 => ⟨S1x1, .i32⟩
  | 74 => ⟨S8192x1, .i32⟩
  | 75 => ⟨S8192x1, .i1⟩
  | 76 => ⟨S8192x1, .i1⟩
  | 77 => ⟨S_, .i1⟩
  | 78 => ⟨S8192, .i1⟩
  | 79 => ⟨S8192x256, .f32⟩
  | 80 => ⟨S8192x256, .i1⟩
  | 81 => ⟨S_, .f32⟩
  | 82 => ⟨S8192x256, .f32⟩
  | 83 => ⟨S8192x256, .f32⟩
  | 84 => ⟨S8192x256, .f32⟩
  | 85 => ⟨S8192x256, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8192x256, .f32⟩
  | 94 => ⟨S8192x256, .f32⟩
  | 95 => ⟨S8192x1, .i32⟩
  | 96 => ⟨S1x1024, .i32⟩
  | 97 => ⟨S8192x1024, .i32⟩
  | 98 => ⟨S8192x1024, .i32⟩
  | 99 => ⟨S8192x1024, .i1⟩
  | 100 => ⟨S8192x1024, .f32⟩
  | 101 => ⟨S_, .f32⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S1024, .f32⟩
  | 111 => ⟨S_, .f32⟩
  | 112 => ⟨S_, .f32⟩
  | 113 => ⟨S_, .f32⟩
  | 114 => ⟨S_, .f32⟩
  | 115 => ⟨S_, .f32⟩
  | 116 => ⟨S8x1024x256, .f32⟩
  | 117 => ⟨S8x1024x256, .f32⟩
  | 118 => ⟨S8x1024x256, .f32⟩
  | 119 => ⟨S_, .i32⟩
  | 120 => ⟨S8192, .i32⟩
  | 121 => ⟨S_, .i32⟩
  | 122 => ⟨S8192, .i32⟩
  | 123 => ⟨S8192, .i32⟩
  | 124 => ⟨S8192, .i32⟩
  | 125 => ⟨S_, .i32⟩
  | 126 => ⟨S8192, .i32⟩
  | 127 => ⟨S8192, .i32⟩
  | _ => ⟨S8x1024x256, .f32⟩

abbrev hbmTy0_2 (i : Nat) : BufTy := match i % 128 with
  | 0 => ⟨S8192, .i32⟩
  | 1 => ⟨S_, .i32⟩
  | 2 => ⟨S8192, .i32⟩
  | 3 => ⟨S8192, .i32⟩
  | 4 => ⟨S8192, .i32⟩
  | 5 => ⟨S8x1024, .i32⟩
  | 6 => ⟨S_, .f32⟩
  | 7 => ⟨S_, .f32⟩
  | 8 => ⟨S8192x256, .f32⟩
  | 9 => ⟨S1x1, .f32⟩
  | 10 => ⟨S4x2048x1, .i32⟩
  | 11 => ⟨S1x1, .f32⟩
  | _ => ⟨S8x1024x256, .f32⟩

abbrev hbmTy (i : Nat) : BufTy := match i / 128 with
  | 0 => hbmTy0_0 i
  | 1 => hbmTy0_1 i
  | 2 => hbmTy0_2 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v28 : Ref sig .tc := ⟨.hbm, 69, rfl⟩
abbrev main_cst_7 : Ref sig .tc := ⟨.hbm, 70, rfl⟩
abbrev main_v29 : Ref sig .tc := ⟨.hbm, 71, rfl⟩
abbrev main_cst_8 : Ref sig .tc := ⟨.hbm, 72, rfl⟩
abbrev main_v30 : Ref sig .tc := ⟨.hbm, 73, rfl⟩
abbrev main_v31 : Ref sig .tc := ⟨.hbm, 74, rfl⟩
abbrev main_cst_9 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_10 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_11 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_12 : Ref sig .tc := ⟨.hbm, 89, rfl⟩
abbrev main_v43 : Ref sig .tc := ⟨.hbm, 90, rfl⟩
abbrev main_v44 : Ref sig .tc := ⟨.hbm, 91, rfl⟩
abbrev main_cst_13 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_14 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_call3_v0 : Ref sig .tc := ⟨.hbm, 105, rfl⟩
abbrev main_call3_cst : Ref sig .tc := ⟨.hbm, 106, rfl⟩
abbrev main_call3_c : Ref sig .tc := ⟨.hbm, 107, rfl⟩
abbrev main_call3_v1_0 : Ref sig .tc := ⟨.hbm, 108, rfl⟩
abbrev main_v56 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_cst_15 : Ref sig .tc := ⟨.hbm, 135, rfl⟩
abbrev main_v60 : Ref sig .tc := ⟨.hbm, 136, rfl⟩
abbrev main_cst_16 : Ref sig .tc := ⟨.hbm, 137, rfl⟩
abbrev main_v61 : Ref sig .tc := ⟨.hbm, 138, rfl⟩
abbrev main_cst_17 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v66 : Ref sig .tc := ⟨.hbm, 149, rfl⟩
abbrev main_cst_18 : Ref sig .tc := ⟨.hbm, 150, rfl⟩
abbrev main_v67 : Ref sig .tc := ⟨.hbm, 151, rfl⟩
abbrev main_cst_19 : Ref sig .tc := ⟨.hbm, 152, rfl⟩
abbrev main_v68 : Ref sig .tc := ⟨.hbm, 153, rfl⟩
abbrev main_v69 : Ref sig .tc := ⟨.hbm, 154, rfl⟩
abbrev main_cst_20 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_cst_21 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_22 : Ref sig .tc := ⟨.hbm, 168, rfl⟩
abbrev main_v81 : Ref sig .tc := ⟨.hbm, 169, rfl⟩
abbrev main_v82 : Ref sig .tc := ⟨.hbm, 170, rfl⟩
abbrev main_cst_23 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_cst_24 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_call6_v0 : Ref sig .tc := ⟨.hbm, 184, rfl⟩
abbrev main_call6_cst : Ref sig .tc := ⟨.hbm, 185, rfl⟩
abbrev main_call6_c : Ref sig .tc := ⟨.hbm, 186, rfl⟩
abbrev main_call6_v1_0 : Ref sig .tc := ⟨.hbm, 187, rfl⟩
abbrev main_v94 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v95 : Ref sig .tc := ⟨.hbm, 211, rfl⟩
abbrev main_v96 : Ref sig .tc := ⟨.hbm, 212, rfl⟩
abbrev main_v97 : Ref sig .tc := ⟨.hbm, 213, rfl⟩
abbrev main_cst_25 : Ref sig .tc := ⟨.hbm, 214, rfl⟩
abbrev main_v98 : Ref sig .tc := ⟨.hbm, 215, rfl⟩
abbrev main_cst_26 : Ref sig .tc := ⟨.hbm, 216, rfl⟩
abbrev main_v99 : Ref sig .tc := ⟨.hbm, 217, rfl⟩
abbrev main_cst_27 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v104 : Ref sig .tc := ⟨.hbm, 228, rfl⟩
abbrev main_cst_28 : Ref sig .tc := ⟨.hbm, 229, rfl⟩
abbrev main_v105 : Ref sig .tc := ⟨.hbm, 230, rfl⟩
abbrev main_cst_29 : Ref sig .tc := ⟨.hbm, 231, rfl⟩
abbrev main_v106 : Ref sig .tc := ⟨.hbm, 232, rfl⟩
abbrev main_v107 : Ref sig .tc := ⟨.hbm, 233, rfl⟩
abbrev main_cst_30 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_cst_31 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_c : Ref sig .tc := ⟨.hbm, 247, rfl⟩
abbrev main_v119 : Ref sig .tc := ⟨.hbm, 248, rfl⟩
abbrev main_c_32 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_c_33 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_c_34 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_cst_35 : Ref sig .tc := ⟨.hbm, 262, rfl⟩
abbrev main_v130 : Ref sig .tc := ⟨.hbm, 263, rfl⟩
abbrev main_v131 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

@[expose] public section

set_option Elab.async false

/-!
The reference's `main` as a list of its host operations, cut where the mathematics cuts it: for each of the
three stages the search for the nearest code, the lookup of that code and the statistics, then the operations
that form the results.
-/

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- A list of host operations of the reference. -/
abbrev OpList (F : FTy → Type) [FloatOps F] := List (HloOp τ sig (Elt F))

/-- Operations of stage 0: distances to the codes and the nearest code of every row. -/
abbrev near0 : OpList F :=
  [ reshape main_arg0 main_v0 (rfl : (.f32 : EltTy) = .f32) shapeCasts_S8x1024x256_S8192x256,
    nullary main_cst (constant S_ .f32 0x00000000#32),
    unary main_cst main_v1 (broadcastInDim S8192x256 ![] bcast_S_S8192x256 : (⟨S_, .f32⟩ : BufTy).Contents (Elt F) → (⟨S8192x256, .f32⟩ : BufTy).Contents (Elt F)),
    unary main_arg1 main_v2 ((extractStridedSlice S1x1024x256 ![0, 0, 0] · slices_S3x1024x256_S1x1024x256_0_0_0) : (⟨S3x1024x256, .f32⟩ : BufTy).Contents (Elt F) → (⟨S1x1024x256, .f32⟩ : BufTy).Contents (Elt F)),
    reshape main_v2 main_v3 (rfl : (.f32 : EltTy) = .f32) shapeCasts_S1x1024x256_S1024x256,
    binary main_v0 main_v0 main_v4 (mulf : (⟨S8192x256, .f32⟩ : BufTy).Contents (Elt F) → (⟨S8192x256, .f32⟩ : BufTy).Contents (Elt F) → (⟨S8192x256, .f32⟩ : BufTy).Contents (Elt F)),
    nullary main_cst_0 (constant S_ .f32 0x00000000#32),
    binary main_v4 main_cst_0 main_v5 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    nullary main_cst_1 (constant S_ .f32 0x40000000#32),
    unary main_cst_1 main_v7 (broadcastInDim S8192x256 ![] bcast_S_S8192x256 : (⟨S_, .f32⟩ : BufTy).Contents (Elt F) → (⟨S8192x256, .f32⟩ : BufTy).Contents (Elt F)),
    binary main_v7 main_v0 main_v8 (mulf : (⟨S8192x256, .f32⟩ : BufTy).Contents (Elt F) → (⟨S8192x256, .f32⟩ : BufTy).Contents (Elt F) → (⟨S8192x256, .f32⟩ : BufTy).Contents (Elt F)),
    unary main_v3 main_v9 ((transpose S256x1024 [1, 0] · transposes_S1024x256_S256x1024_1_0) : (⟨S1024x256, .f32⟩ : BufTy).Contents (Elt F) → (⟨S256x1024, .f32⟩ : BufTy).Contents (Elt F)),
    binary main_v8 main_v9 main_v10 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    unary main_v6 main_v11 (broadcastInDim S8192x1024 ![0, 1] bcast_S8192x1_S8192x1024_0_1 : (⟨S8192x1, .f32⟩ : BufTy).Contents (Elt F) → (⟨S8192x1024, .f32⟩ : BufTy).Contents (Elt F)),
    binary main_v11 main_v10 main_v12 (subf : (⟨S8192x1024, .f32⟩ : BufTy).Contents (Elt F) → (⟨S8192x1024, .f32⟩ : BufTy).Contents (Elt F) → (⟨S8192x1024, .f32⟩ : BufTy).Contents (Elt F)),
    binary main_v3 main_v3 main_v13 (mulf : (⟨S1024x256, .f32⟩ : BufTy).Contents (Elt F) → (⟨S1024x256, .f32⟩ : BufTy).Contents (Elt F) → (⟨S1024x256, .f32⟩ : BufTy).Contents (Elt F)),
    nullary main_cst_2 (constant S_ .f32 0x00000000#32),
    binary main_v13 main_cst_2 main_v14 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v14 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S8192x1024 ![0, 1] bcast_S1x1024_S8192x1024_0_1 : (⟨S1x1024, .f32⟩ : BufTy).Contents (Elt F) → (⟨S8192x1024, .f32⟩ : BufTy).Contents (Elt F)),
    binary main_v12 main_v16 main_v17 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S8192x1024, .i32⟩) main_call0_v0) (iotaInDim S8192x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8192x1024, .f32⟩) main_v17) (TRef.of (T := ⟨S8192x1024, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmin_f32_i32 x y u v reducesTo_S8192x1024_S8192_d1 h_S_ j).1),
    TRef.quaternary (TRef.of (T := ⟨S8192x1024, .f32⟩) main_v17) (TRef.of (T := ⟨S8192x1024, .i32⟩) main_call0_v0) (TRef.of (T := ⟨S_, .f32⟩) main_call0_cst) (TRef.of (T := ⟨S_, .i32⟩) main_call0_c) (TRef.of (T := ⟨S8192, .i32⟩) main_v18) (fun x y u v j => (Host.argReduce reducer_argmin_f32_i32 x y u v reducesTo_S8192x1024_S8192_d1 h_S_ j).2) ]

/-- Operations of stage 0: the nearest codes looked up. -/
abbrev take0 : OpList F :=
  [ TRef.nullary (TRef.of (T := ⟨S_, .i32⟩) main_call1_c) (constantI S_ 32 0#32),
    TRef.unary (TRef.of (T := ⟨S_, .i32⟩) main_call1_c) (TRef.of (T := ⟨S8192, .i32⟩) main_call1_v0) (broadcastInDim S8192 ![] bcast_S_S8192),
    TRef.binary (TRef.of (T := ⟨S8192, .i32⟩) main_v18) (TRef.of (T := ⟨S8192, .i32⟩) main_call1_v0) (TRef.of (T := ⟨S8192, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192, .i32⟩) main_call1_v2) (broadcastInDim S8192 ![] bcast_S_S8192),
    TRef.binary (TRef.of (T := ⟨S8192, .i32⟩) main_v18) (TRef.of (T := ⟨S8192, .i32⟩) main_call1_v2) (TRef.of (T := ⟨S8192, .i32⟩) main_call1_v3) addi,
    TRef.ternary (TRef.of (T := ⟨S8192, .i1⟩) main_call1_v1) (TRef.of (T := ⟨S8192, .i32⟩) main_call1_v3) (TRef.of (T := ⟨S8192, .i32⟩) main_v18) (TRef.of (T := ⟨S8192, .i32⟩) main_call1_v4) select,
    TRef.unary (TRef.of (T := ⟨S8192, .i32⟩) main_call1_v4) (TRef.of (T := ⟨S8192x1, .i32⟩) main_call1_v5) (broadcastInDim S8192x1 ![0] bcast_S8192_S8192x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x1, .i32⟩) main_call1_v6) (broadcastInDim S8192x1 ![] bcast_S_S8192x1),
    TRef.binary (TRef.of (T := ⟨S8192x1, .i32⟩) main_call1_v5) (TRef.of (T := ⟨S8192x1, .i32⟩) main_call1_v6) (TRef.of (T := ⟨S8192x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S8192x1, .i32⟩) main_call1_v9) (broadcastInDim S8192x1 ![0, 1] bcast_S1x1_S8192x1_0_1),
    TRef.binary (TRef.of (T := ⟨S8192x1, .i32⟩) main_call1_v5) (TRef.of (T := ⟨S8192x1, .i32⟩) main_call1_v9) (TRef.of (T := ⟨S8192x1, .i1⟩) main_call1_v10) (cmpi .sle),
    TRef.binary (TRef.of (T := ⟨S8192x1, .i1⟩) main_call1_v7) (TRef.of (T := ⟨S8192x1, .i1⟩) main_call1_v10) (TRef.of (T := ⟨S8192x1, .i1⟩) main_call1_v11) andi,
    TRef.nullary (TRef.of (T := ⟨S_, .i1⟩) main_call1_c_3) (constantI S_ 1 1#1),
    TRef.binary (TRef.of (T := ⟨S8192x1, .i1⟩) main_call1_v11) (TRef.of (T := ⟨S_, .i1⟩) main_call1_c_3) (TRef.of (T := ⟨S8192, .i1⟩) main_call1_v12) (fun x v => Host.reduce IntOp.andi x v reducesTo_S8192x1_S8192_d1 h_S_),
    TRef.binary (TRef.of (T := ⟨S1024x256, .f32⟩) main_v3) (TRef.of (T := ⟨S8192x1, .i32⟩) main_call1_v5) (TRef.of (T := ⟨S8192x256, .f32⟩) main_call1_v13) (fun x i => Host.gather gather_S1024x256_S8192x1_S8192x256_1_0_n_n_0_1_1256 x i),
    TRef.unary (TRef.of (T := ⟨S8192, .i1⟩) main_call1_v12) (TRef.of (T := ⟨S8192x256, .i1⟩) main_call1_v14) (broadcastInDim S8192x256 ![0] bcast_S8192_S8192x256_0),
    TRef.nullary (TRef.of (T := ⟨S_, .f32⟩) main_call1_cst) (constant S_ .f32 0x7FC00000#32),
    TRef.unary (TRef.of (T := ⟨S_, .f32⟩) main_call1_cst) (TRef.of (T := ⟨S8192x256, .f32⟩) main_call1_v15) (broadcastInDim S8192x256 ![] bcast_S_S8192x256),
    TRef.ternary (TRef.of (T := ⟨S8192x256, .i1⟩) main_call1_v14) (TRef.of (T := ⟨S8192x256, .f32⟩) main_call1_v13) (TRef.of (T := ⟨S8192x256, .f32⟩) main_call1_v15) (TRef.of (T := ⟨S8192x256, .f32⟩) main_v19) select ]

/-- Operations of stage 0: loss, running sum, residual and usage of the codes. -/
abbrev rest0 : OpList F :=
  [ binary main_v0 main_v19 main_v20 (subf : (⟨S8192x256, .f32⟩ : BufTy).Contents (Elt F) → (⟨S8192x256, .f32⟩ : BufTy).Contents (Elt F) → (⟨S8192x256, .f32⟩ : BufTy).Contents (Elt F)),
    binary main_v20 main_v20 main_v21 (mulf : (⟨S8192x256, .f32⟩ : BufTy).Contents (Elt F) → (⟨S8192x256, .f32⟩ : BufTy).Contents (Elt F) → (⟨S8192x256, .f32⟩ : BufTy).Contents (Elt F)),
    nullary main_cst_3 (constant S_ .f32 0x00000000#32),
    binary main_v21 main_cst_3 main_v22 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_4 (constant S_ .f32 0x4A000000#32),
    binary main_v22 main_cst_4 main_v23 (Host.divf : (⟨S_, .f32⟩ : BufTy).Contents (Elt F) → (⟨S_, .f32⟩ : BufTy).Contents (Elt F) → (⟨S_, .f32⟩ : BufTy).Contents (Elt F)),
    nullary main_cst_5 (constant S_ .f32 0x3E800000#32),
    binary main_cst_5 main_v23 main_v24 (mulf : (⟨S_, .f32⟩ : BufTy).Contents (Elt F) → (⟨S_, .f32⟩ : BufTy).Contents (Elt F) → (⟨S_, .f32⟩ : BufTy).Contents (Elt F)),
    nullary main_cst_6 (constant S_ .f32 0x00000000#32),
    binary main_cst_6 main_v24 main_v25 (addf : (⟨S_, .f32⟩ : BufTy).Contents (Elt F) → (⟨S_, .f32⟩ : BufTy).Contents (Elt F) → (⟨S_, .f32⟩ : BufTy).Contents (Elt F)),
    binary main_v1 main_v19 main_v26 (addf : (⟨S8192x256, .f32⟩ : BufTy).Contents (Elt F) → (⟨S8192x256, .f32⟩ : BufTy).Contents (Elt F) → (⟨S8192x256, .f32⟩ : BufTy).Contents (Elt F)),
    binary main_v0 main_v19 main_v27 (subf : (⟨S8192x256, .f32⟩ : BufTy).Contents (Elt F) → (⟨S8192x256, .f32⟩ : BufTy).Contents (Elt F) → (⟨S8192x256, .f32⟩ : BufTy).Contents (Elt F)),
    TRef.unary (TRef.of (T := ⟨S8192, .i32⟩) main_v18) (TRef.of (T := ⟨S8192x1, .i32⟩) main_call2_v0) (broadcastInDim S8192x1 ![0] bcast_S8192_S8192x1_0),
    TRef.nullary (TRef.of (T := ⟨S1x1024, .i32⟩) main_call2_v1) (iotaInDim S1x1024 32 1),
    TRef.unary (TRef.of (T := ⟨S8192x1, .i32⟩) main_call2_v0) (TRef.of (T := ⟨S8192x1024, .i32⟩) main_call2_v2) (broadcastInDim S8192x1024 ![0, 1] bcast_S8192x1_S8192x1024_0_1),
    TRef.unary (TRef.of (T := ⟨S1x1024, .i32⟩) main_call2_v1) (TRef.of (T := ⟨S8192x1024, .i32⟩) main_call2_v3) (broadcastInDim S8192x1024 ![0, 1] bcast_S1x1024_S8192x1024_0_1),
    TRef.binary (TRef.of (T := ⟨S8192x1024, .i32⟩) main_call2_v2) (TRef.of (T := ⟨S8192x1024, .i32⟩) main_call2_v3) (TRef.of (T := ⟨S8192x1024, .i1⟩) main_call2_v4) (cmpi .eq),
    TRef.unary (TRef.of (T := ⟨S8192x1024, .i1⟩) main_call2_v4) (TRef.of (T := ⟨S8192x1024, .f32⟩) main_v28) (uitofp .f32),
    nullary main_cst_7 (constant S_ .f32 0x00000000#32),
    binary main_v28 main_cst_7 main_v29 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_8 (constant S_ .f32 0x46000000#32),
    unary main_cst_8 main_v30 (broadcastInDim S1024 ![] bcast_S_S1024 : (⟨S_, .f32⟩ : BufTy).Contents (Elt F) → (⟨S1024, .f32⟩ : BufTy).Contents (Elt F)),
    binary main_v29 main_v30 main_v31 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v32 (broadcastInDim S1024 ![] bcast_S_S1024 : (⟨S_, .f32⟩ : BufTy).Contents (Elt F) → (⟨S1024, .f32⟩ : BufTy).Contents (Elt F)),
    binary main_v31 main_v32 main_v33 (addf : (⟨S1024, .f32⟩ : BufTy).Contents (Elt F) → (⟨S1024, .f32⟩ : BufTy).Contents (Elt F) → (⟨S1024, .f32⟩ : BufTy).Contents (Elt F)),
    unary main_v33 main_v34 (Host.log : (⟨S1024, .f32⟩ : BufTy).Contents (Elt F) → (⟨S1024, .f32⟩ : BufTy).Contents (Elt F)),
    binary main_v31 main_v34 main_v35 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v35 main_cst_10 main_v36 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v36 main_v37 (Host.negf : (⟨S_, .f32⟩ : BufTy).Contents (Elt F) → (⟨S_, .f32⟩ : BufTy).Contents (Elt F)),
    unary main_v37 main_v38 (Host.exp : (⟨S_, .f32⟩ : BufTy).Contents (Elt F) → (⟨S_, .f32⟩ : BufTy).Contents (Elt F)),
    nullary main_cst_11 (constant S_ .f32 0x00000000#32),
    binary main_cst_11 main_v38 main_v39 (addf : (⟨S_, .f32⟩ : BufTy).Contents (Elt F) → (⟨S_, .f32⟩ : BufTy).Contents (Elt F) → (⟨S_, .f32⟩ : BufTy).Contents (Elt F)) ]

/-- Operations of stage 1: distances to the codes and the nearest code of every row (part a). -/
abbrev near1a : OpList F :=
  [ unary main_arg1 main_v40 ((extractStridedSlice S1x1024x256 ![1, 0, 0] · slices_S3x1024x256_S1x1024x256_1_0_0) : (⟨S3x1024x256, .f32⟩ : BufTy).Contents (Elt F) → (⟨S1x1024x256, .f32⟩ : BufTy).Contents (Elt F)),
    reshape main_v40 main_v41 (rfl : (.f32 : EltTy) = .f32) shapeCasts_S1x1024x256_S1024x256,
    binary main_v27 main_v27 main_v42 (mulf : (⟨S8192x256, .f32⟩ : BufTy).Contents (Elt F) → (⟨S8192x256, .f32⟩ : BufTy).Contents (Elt F) → (⟨S8192x256, .f32⟩ : BufTy).Contents (Elt F)),
    nullary main_cst_12 (constant S_ .f32 0x00000000#32),
    binary main_v42 main_cst_12 main_v43 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v43 main_v44 (broadcastInDim S8192x1 ![0] bcast_S8192_S8192x1_0 : (⟨S8192, .f32⟩ : BufTy).Contents (Elt F) → (⟨S8192x1, .f32⟩ : BufTy).Contents (Elt F)),
    nullary main_cst_13 (constant S_ .f32 0x40000000#32) ]

/-- Operations of stage 1: distances to the codes and the nearest code of every row (part b). -/
abbrev near1b : OpList F :=
  [ unary main_cst_13 main_v45 (broadcastInDim S8192x256 ![] bcast_S_S8192x256 : (⟨S_, .f32⟩ : BufTy).Contents (Elt F) → (⟨S8192x256, .f32⟩ : BufTy).Contents (Elt F)),
    binary main_v45 main_v27 main_v46 (mulf : (⟨S8192x256, .f32⟩ : BufTy).Contents (Elt F) → (⟨S8192x256, .f32⟩ : BufTy).Contents (Elt F) → (⟨S8192x256, .f32⟩ : BufTy).Contents (Elt F)),
    unary main_v41 main_v47 ((transpose S256x1024 [1, 0] · transposes_S1024x256_S256x1024_1_0) : (⟨S1024x256, .f32⟩ : BufTy).Contents (Elt F) → (⟨S256x1024, .f32⟩ : BufTy).Contents (Elt F)),
    binary main_v46 main_v47 main_v48 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    unary main_v44 main_v49 (broadcastInDim S8192x1024 ![0, 1] bcast_S8192x1_S8192x1024_0_1 : (⟨S8192x1, .f32⟩ : BufTy).Contents (Elt F) → (⟨S8192x1024, .f32⟩ : BufTy).Contents (Elt F)),
    binary main_v49 main_v48 main_v50 (subf : (⟨S8192x1024, .f32⟩ : BufTy).Contents (Elt F) → (⟨S8192x1024, .f32⟩ : BufTy).Contents (Elt F) → (⟨S8192x1024, .f32⟩ : BufTy).Contents (Elt F)),
    binary main_v41 main_v41 main_v51 (mulf : (⟨S1024x256, .f32⟩ : BufTy).Contents (Elt F) → (⟨S1024x256, .f32⟩ : BufTy).Contents (Elt F) → (⟨S1024x256, .f32⟩ : BufTy).Contents (Elt F)),
    nullary main_cst_14 (constant S_ .f32 0x00000000#32),
    binary main_v51 main_cst_14 main_v52 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v52 main_v53 (broadcastInDim S1x1024 ![1] bcast_S1024_S1x1024_1 : (⟨S1024, .f32⟩ : BufTy).Contents (Elt F) → (⟨S1x1024, .f32⟩ : BufTy).Contents (Elt F)),
    unary main_v53 main_v54 (broadcastInDim S8192x1024 ![0, 1] bcast_S1x1024_S8192x1024_0_1 : (⟨S1x1024, .f32⟩ : BufTy).Contents (Elt F) → (⟨S8192x1024, .f32⟩ : BufTy).Contents (Elt F)),
    binary main_v50 main_v54 main_v55 (addf : (⟨S8192x1024, .f32⟩ : BufTy).Contents (Elt F) → (⟨S8192x1024, .f32⟩ : BufTy).Contents (Elt F) → (⟨S8192x1024, .f32⟩ : BufTy).Contents (Elt F)),
    TRef.nullary (TRef.of (T := ⟨S8192x1024, .i32⟩) main_call3_v0) (iotaInDim S8192x1024 32 1),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S8192x1024, .f32⟩) main_v55) (TRef.of (T := ⟨S8192x1024, .i32⟩) main_call3_v0) (TRef.of (T := ⟨S_, .f32⟩) main_call3_cst) (TRef.of (T := ⟨S_, .i32⟩) main_call3_c) (TRef.of (T := ⟨S8192, .f32⟩) main_call3_v1_0) (fun x y u v j => (Host.argReduce reducer_argmin_f32_i32 x y u v reducesTo_S8192x1024_S8192_d1 h_S_ j).1),
    TRef.quaternary (TRef.of (T := ⟨S8192x1024, .f32⟩) main_v55) (TRef.of (T := ⟨S8192x1024, .i32⟩) main_call3_v0) (TRef.of (T := ⟨S_, .f32⟩) main_call3_cst) (TRef.of (T := ⟨S_, .i32⟩) main_call3_c) (TRef.of (T := ⟨S8192, .i32⟩) main_v56) (fun x y u v j => (Host.argReduce reducer_argmin_f32_i32 x y u v reducesTo_S8192x1024_S8192_d1 h_S_ j).2) ]

/-- Operations of stage 1: the nearest codes looked up. -/
abbrev take1 : OpList F :=
  [ TRef.nullary (TRef.of (T := ⟨S_, .i32⟩) main_call4_c) (constantI S_ 32 0#32),
    TRef.unary (TRef.of (T := ⟨S_, .i32⟩) main_call4_c) (TRef.of (T := ⟨S8192, .i32⟩) main_call4_v0) (broadcastInDim S8192 ![] bcast_S_S8192),
    TRef.binary (TRef.of (T := ⟨S8192, .i32⟩) main_v56) (TRef.of (T := ⟨S8192, .i32⟩) main_call4_v0) (TRef.of (T := ⟨S8192, .i1⟩) main_call4_v1) (cmpi .slt),
    TRef.nullary (TRef.of (T := ⟨S_, .i32⟩) main_call4_c_0) (constantI S_ 32 1024#32),
    TRef.unary (TRef.of (T := ⟨S_, .i32⟩) main_call4_c_0) (TRef.of (T := ⟨S8192, .i32⟩) main_call4_v2) (broadcastInDim S8192 ![] bcast_S_S8192),
    TRef.binary (TRef.of (T := ⟨S8192, .i32⟩) main_v56) (TRef.of (T := ⟨S8192, .i32⟩) main_call4_v2) (TRef.of (T := ⟨S8192, .i32⟩) main_call4_v3) addi,
    TRef.ternary (TRef.of (T := ⟨S8192, .i1⟩) main_call4_v1) (TRef.of (T := ⟨S8192, .i32⟩) main_call4_v3) (TRef.of (T := ⟨S8192, .i32⟩) main_v56) (TRef.of (T := ⟨S8192, .i32⟩) main_call4_v4) select,
    TRef.unary (TRef.of (T := ⟨S8192, .i32⟩) main_call4_v4) (TRef.of (T := ⟨S8192x1, .i32⟩) main_call4_v5) (broadcastInDim S8192x1 ![0] bcast_S8192_S8192x1_0),
    TRef.nullary (TRef.of (T := ⟨S1, .i32⟩) main_call4_c_1) (constantI S1 32 1023#32),
    TRef.nullary (TRef.of (T := ⟨S_, .i32⟩) main_call4_c_2) (constantI S_ 32 0#32),
    TRef.unary (TRef.of (T := ⟨S_, .i32⟩) main_call4_c_2) (TRef.of (T := ⟨S8192x1, .i32⟩) main_call4_v6) (broadcastInDim S8192x1 ![] bcast_S_S8192x1),
    TRef.binary (TRef.of (T := ⟨S8192x1, .i32⟩) main_call4_v5) (TRef.of (T := ⟨S8192x1, .i32⟩) main_call4_v6) (TRef.of (T := ⟨S8192x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S8192x1, .i32⟩) main_call4_v9) (broadcastInDim S8192x1 ![0, 1] bcast_S1x1_S8192x1_0_1),
    TRef.binary (TRef.of (T := ⟨S8192x1, .i32⟩) main_call4_v5) (TRef.of (T := ⟨S8192x1, .i32⟩) main_call4_v9) (TRef.of (T := ⟨S8192x1, .i1⟩) main_call4_v10) (cmpi .sle),
    TRef.binary (TRef.of (T := ⟨S8192x1, .i1⟩) main_call4_v7) (TRef.of (T := ⟨S8192x1, .i1⟩) main_call4_v10) (TRef.of (T := ⟨S8192x1, .i1⟩) main_call4_v11) andi,
    TRef.nullary (TRef.of (T := ⟨S_, .i1⟩) main_call4_c_3) (constantI S_ 1 1#1),
    TRef.binary (TRef.of (T := ⟨S8192x1, .i1⟩) main_call4_v11) (TRef.of (T := ⟨S_, .i1⟩) main_call4_c_3) (TRef.of (T := ⟨S8192, .i1⟩) main_call4_v12) (fun x v => Host.reduce IntOp.andi x v reducesTo_S8192x1_S8192_d1 h_S_),
    TRef.binary (TRef.of (T := ⟨S1024x256, .f32⟩) main_v41) (TRef.of (T := ⟨S8192x1, .i32⟩) main_call4_v5) (TRef.of (T := ⟨S8192x256, .f32⟩) main_call4_v13) (fun x i => Host.gather gather_S1024x256_S8192x1_S8192x256_1_0_n_n_0_1_1256 x i),
    TRef.unary (TRef.of (T := ⟨S8192, .i1⟩) main_call4_v12) (TRef.of (T := ⟨S8192x256, .i1⟩) main_call4_v14) (broadcastInDim S8192x256 ![0] bcast_S8192_S8192x256_0),
    TRef.nullary (TRef.of (T := ⟨S_, .f32⟩) main_call4_cst) (constant S_ .f32 0x7FC00000#32),
    TRef.unary (TRef.of (T := ⟨S_, .f32⟩) main_call4_cst) (TRef.of (T := ⟨S8192x256, .f32⟩) main_call4_v15) (broadcastInDim S8192x256 ![] bcast_S_S8192x256),
    TRef.ternary (TRef.of (T := ⟨S8192x256, .i1⟩) main_call4_v14) (TRef.of (T := ⟨S8192x256, .f32⟩) main_call4_v13) (TRef.of (T := ⟨S8192x256, .f32⟩) main_call4_v15) (TRef.of (T := ⟨S8192x256, .f32⟩) main_v57) select ]

/-- Operations of stage 1: loss, running sum, residual and usage of the codes. -/
abbrev rest1 : OpList F :=
  [ binary main_v27 main_v57 main_v58 (subf : (⟨S8192x256, .f32⟩ : BufTy).Contents (Elt F) → (⟨S8192x256, .f32⟩ : BufTy).Contents (Elt F) → (⟨S8192x256, .f32⟩ : BufTy).Contents (Elt F)),
    binary main_v58 main_v58 main_v59 (mulf : (⟨S8192x256, .f32⟩ : BufTy).Contents (Elt F) → (⟨S8192x256, .f32⟩ : BufTy).Contents (Elt F) → (⟨S8192x256, .f32⟩ : BufTy).Contents (Elt F)),
    nullary main_cst_15 (constant S_ .f32 0x00000000#32),
    binary main_v59 main_cst_15 main_v60 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_16 (constant S_ .f32 0x4A000000#32),
    binary main_v60 main_cst_16 main_v61 (Host.divf : (⟨S_, .f32⟩ : BufTy).Contents (Elt F) → (⟨S_, .f32⟩ : BufTy).Contents (Elt F) → (⟨S_, .f32⟩ : BufTy).Contents (Elt F)),
    nullary main_cst_17 (constant S_ .f32 0x3E800000#32),
    binary main_cst_17 main_v61 main_v62 (mulf : (⟨S_, .f32⟩ : BufTy).Contents (Elt F) → (⟨S_, .f32⟩ : BufTy).Contents (Elt F) → (⟨S_, .f32⟩ : BufTy).Contents (Elt F)),
    binary main_v25 main_v62 main_v63 (addf : (⟨S_, .f32⟩ : BufTy).Contents (Elt F) → (⟨S_, .f32⟩ : BufTy).Contents (Elt F) → (⟨S_, .f32⟩ : BufTy).Contents (Elt F)),
    binary main_v26 main_v57 main_v64 (addf : (⟨S8192x256, .f32⟩ : BufTy).Contents (Elt F) → (⟨S8192x256, .f32⟩ : BufTy).Contents (Elt F) → (⟨S8192x256, .f32⟩ : BufTy).Contents (Elt F)),
    binary main_v27 main_v57 main_v65 (subf : (⟨S8192x256, .f32⟩ : BufTy).Contents (Elt F) → (⟨S8192x256, .f32⟩ : BufTy).Contents (Elt F) → (⟨S8192x256, .f32⟩ : BufTy).Contents (Elt F)),
    TRef.unary (TRef.of (T := ⟨S8192, .i32⟩) main_v56) (TRef.of (T := ⟨S8192x1, .i32⟩) main_call5_v0) (broadcastInDim S8192x1 ![0] bcast_S8192_S8192x1_0),
    TRef.nullary (TRef.of (T := ⟨S1x1024, .i32⟩) main_call5_v1) (iotaInDim S1x1024 32 1),
    TRef.unary (TRef.of (T := ⟨S8192x1, .i32⟩) main_call5_v0) (TRef.of (T := ⟨S8192x1024, .i32⟩) main_call5_v2) (broadcastInDim S8192x1024 ![0, 1] bcast_S8192x1_S8192x1024_0_1),
    TRef.unary (TRef.of (T := ⟨S1x1024, .i32⟩) main_call5_v1) (TRef.of (T := ⟨S8192x1024, .i32⟩) main_call5_v3) (broadcastInDim S8192x1024 ![0, 1] bcast_S1x1024_S8192x1024_0_1),
    TRef.binary (TRef.of (T := ⟨S8192x1024, .i32⟩) main_call5_v2) (TRef.of (T := ⟨S8192x1024, .i32⟩) main_call5_v3) (TRef.of (T := ⟨S8192x1024, .i1⟩) main_call5_v4) (cmpi .eq),
    TRef.unary (TRef.of (T := ⟨S8192x1024, .i1⟩) main_call5_v4) (TRef.of (T := ⟨S8192x1024, .f32⟩) main_v66) (uitofp .f32),
    nullary main_cst_18 (constant S_ .f32 0x00000000#32),
    binary main_v66 main_cst_18 main_v67 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_19 (constant S_ .f32 0x46000000#32),
    unary main_cst_19 main_v68 (broadcastInDim S1024 ![] bcast_S_S1024 : (⟨S_, .f32⟩ : BufTy).Contents (Elt F) → (⟨S1024, .f32⟩ : BufTy).Contents (Elt F)),
    binary main_v67 main_v68 main_v69 (Host.divf : (⟨S1024, .f32⟩ : BufTy).Contents (Elt F) → (⟨S1024, .f32⟩ : BufTy).Contents (Elt F) → (⟨S1024, .f32⟩ : BufTy).Contents (Elt F)),
    nullary main_cst_20 (constant S_ .f32 0x2EDBE6FF#32),
    unary main_cst_20 main_v70 (broadcastInDim S1024 ![] bcast_S_S1024 : (⟨S_, .f32⟩ : BufTy).Contents (Elt F) → (⟨S1024, .f32⟩ : BufTy).Contents (Elt F)),
    binary main_v69 main_v70 main_v71 (addf : (⟨S1024, .f32⟩ : BufTy).Contents (Elt F) → (⟨S1024, .f32⟩ : BufTy).Contents (Elt F) → (⟨S1024, .f32⟩ : BufTy).Contents (Elt F)),
    unary main_v71 main_v72 (Host.log : (⟨S1024, .f32⟩ : BufTy).Contents (Elt F) → (⟨S1024, .f32⟩ : BufTy).Contents (Elt F)),
    binary main_v69 main_v72 main_v73 (mulf : (⟨S1024, .f32⟩ : BufTy).Contents (Elt F) → (⟨S1024, .f32⟩ : BufTy).Contents (Elt F) → (⟨S1024, .f32⟩ : BufTy).Contents (Elt F)),
    nullary main_cst_21 (constant S_ .f32 0x00000000#32),
    binary main_v73 main_cst_21 main_v74 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v74 main_v75 (Host.negf : (⟨S_, .f32⟩ : BufTy).Contents (Elt F) → (⟨S_, .f32⟩ : BufTy).Contents (Elt F)),
    unary main_v75 main_v76 (Host.exp : (⟨S_, .f32⟩ : BufTy).Contents (Elt F) → (⟨S_, .f32⟩ : BufTy).Contents (Elt F)),
    binary main_v39 main_v76 main_v77 (addf : (⟨S_, .f32⟩ : BufTy).Contents (Elt F) → (⟨S_, .f32⟩ : BufTy).Contents (Elt F) → (⟨S_, .f32⟩ : BufTy).Contents (Elt F)) ]

/-- Operations of stage 2: distances to the codes and the nearest code of every row (part a). -/
abbrev near2a : OpList F :=
  [ unary main_arg1 main_v78 ((extractStridedSlice S1x1024x256 ![2, 0, 0] · slices_S3x1024x256_S1x1024x256_2_0_0) : (⟨S3x1024x256, .f32⟩ : BufTy).Contents (Elt F) → (⟨S1x1024x256, .f32⟩ : BufTy).Contents (Elt F)),
    reshape main_v78 main_v79 (rfl : (.f32 : EltTy) = .f32) shapeCasts_S1x1024x256_S1024x256,
    binary main_v65 main_v65 main_v80 (mulf : (⟨S8192x256, .f32⟩ : BufTy).Contents (Elt F) → (⟨S8192x256, .f32⟩ : BufTy).Contents (Elt F) → (⟨S8192x256, .f32⟩ : BufTy).Contents (Elt F)),
    nullary main_cst_22 (constant S_ .f32 0x00000000#32),
    binary main_v80 main_cst_22 main_v81 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v81 main_v82 (broadcastInDim S8192x1 ![0] bcast_S8192_S8192x1_0 : (⟨S8192, .f32⟩ : BufTy).Contents (Elt F) → (⟨S8192x1, .f32⟩ : BufTy).Contents (Elt F)),
    nullary main_cst_23 (constant S_ .f32 0x40000000#32),
    unary main_cst_23 main_v83 (broadcastInDim S8192x256 ![] bcast_S_S8192x256 : (⟨S_, .f32⟩ : BufTy).Contents (Elt F) → (⟨S8192x256, .f32⟩ : BufTy).Contents (Elt F)),
    binary main_v83 main_v65 main_v84 (mulf : (⟨S8192x256, .f32⟩ : BufTy).Contents (Elt F) → (⟨S8192x256, .f32⟩ : BufTy).Contents (Elt F) → (⟨S8192x256, .f32⟩ : BufTy).Contents (Elt F)),
    unary main_v79 main_v85 ((transpose S256x1024 [1, 0] · transposes_S1024x256_S256x1024_1_0) : (⟨S1024x256, .f32⟩ : BufTy).Contents (Elt F) → (⟨S256x1024, .f32⟩ : BufTy).Contents (Elt F)),
    binary main_v84 main_v85 main_v86 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    unary main_v82 main_v87 (broadcastInDim S8192x1024 ![0, 1] bcast_S8192x1_S8192x1024_0_1 : (⟨S8192x1, .f32⟩ : BufTy).Contents (Elt F) → (⟨S8192x1024, .f32⟩ : BufTy).Contents (Elt F)),
    binary main_v87 main_v86 main_v88 (subf : (⟨S8192x1024, .f32⟩ : BufTy).Contents (Elt F) → (⟨S8192x1024, .f32⟩ : BufTy).Contents (Elt F) → (⟨S8192x1024, .f32⟩ : BufTy).Contents (Elt F)),
    binary main_v79 main_v79 main_v89 (mulf : (⟨S1024x256, .f32⟩ : BufTy).Contents (Elt F) → (⟨S1024x256, .f32⟩ : BufTy).Contents (Elt F) → (⟨S1024x256, .f32⟩ : BufTy).Contents (Elt F)),
    nullary main_cst_24 (constant S_ .f32 0x00000000#32),
    binary main_v89 main_cst_24 main_v90 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v90 main_v91 (broadcastInDim S1x1024 ![1] bcast_S1024_S1x1024_1 : (⟨S1024, .f32⟩ : BufTy).Contents (Elt F) → (⟨S1x1024, .f32⟩ : BufTy).Contents (Elt F)),
    unary main_v91 main_v92 (broadcastInDim S8192x1024 ![0, 1] bcast_S1x1024_S8192x1024_0_1 : (⟨S1x1024, .f32⟩ : BufTy).Contents (Elt F) → (⟨S8192x1024, .f32⟩ : BufTy).Contents (Elt F)),
    binary main_v88 main_v92 main_v93 (addf : (⟨S8192x1024, .f32⟩ : BufTy).Contents (Elt F) → (⟨S8192x1024, .f32⟩ : BufTy).Contents (Elt F) → (⟨S8192x1024, .f32⟩ : BufTy).Contents (Elt F)) ]

/-- Operations of stage 2: distances to the codes and the nearest code of every row (part b). -/
abbrev near2b : OpList F :=
  [ TRef.nullary (TRef.of (T := ⟨S8192x1024, .i32⟩) main_call6_v0) (iotaInDim S8192x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S8192x1024, .f32⟩) main_v93) (TRef.of (T := ⟨S8192x1024, .i32⟩) main_call6_v0) (TRef.of (T := ⟨S_, .f32⟩) main_call6_cst) (TRef.of (T := ⟨S_, .i32⟩) main_call6_c) (TRef.of (T := ⟨S8192, .f32⟩) main_call6_v1_0) (fun x y u v j => (Host.argReduce reducer_argmin_f32_i32 x y u v reducesTo_S8192x1024_S8192_d1 h_S_ j).1),
    TRef.quaternary (TRef.of (T := ⟨S8192x1024, .f32⟩) main_v93) (TRef.of (T := ⟨S8192x1024, .i32⟩) main_call6_v0) (TRef.of (T := ⟨S_, .f32⟩) main_call6_cst) (TRef.of (T := ⟨S_, .i32⟩) main_call6_c) (TRef.of (T := ⟨S8192, .i32⟩) main_v94) (fun x y u v j => (Host.argReduce reducer_argmin_f32_i32 x y u v reducesTo_S8192x1024_S8192_d1 h_S_ j).2) ]

/-- Operations of stage 2: the nearest codes looked up. -/
abbrev take2 : OpList F :=
  [ TRef.nullary (TRef.of (T := ⟨S_, .i32⟩) main_call7_c) (constantI S_ 32 0#32),
    TRef.unary (TRef.of (T := ⟨S_, .i32⟩) main_call7_c) (TRef.of (T := ⟨S8192, .i32⟩) main_call7_v0) (broadcastInDim S8192 ![] bcast_S_S8192),
    TRef.binary (TRef.of (T := ⟨S8192, .i32⟩) main_v94) (TRef.of (T := ⟨S8192, .i32⟩) main_call7_v0) (TRef.of (T := ⟨S8192, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S8192, .i32⟩) main_call7_v2) (broadcastInDim S8192 ![] bcast_S_S8192),
    TRef.binary (TRef.of (T := ⟨S8192, .i32⟩) main_v94) (TRef.of (T := ⟨S8192, .i32⟩) main_call7_v2) (TRef.of (T := ⟨S8192, .i32⟩) main_call7_v3) addi,
    TRef.ternary (TRef.of (T := ⟨S8192, .i1⟩) main_call7_v1) (TRef.of (T := ⟨S8192, .i32⟩) main_call7_v3) (TRef.of (T := ⟨S8192, .i32⟩) main_v94) (TRef.of (T := ⟨S8192, .i32⟩) main_call7_v4) select,
    TRef.unary (TRef.of (T := ⟨S8192, .i32⟩) main_call7_v4) (TRef.of (T := ⟨S8192x1, .i32⟩) main_call7_v5) (broadcastInDim S8192x1 ![0] bcast_S8192_S8192x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S8192x1, .i32⟩) main_call7_v6) (broadcastInDim S8192x1 ![] bcast_S_S8192x1),
    TRef.binary (TRef.of (T := ⟨S8192x1, .i32⟩) main_call7_v5) (TRef.of (T := ⟨S8192x1, .i32⟩) main_call7_v6) (TRef.of (T := ⟨S8192x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S8192x1, .i32⟩) main_call7_v9) (broadcastInDim S8192x1 ![0, 1] bcast_S1x1_S8192x1_0_1),
    TRef.binary (TRef.of (T := ⟨S8192x1, .i32⟩) main_call7_v5) (TRef.of (T := ⟨S8192x1, .i32⟩) main_call7_v9) (TRef.of (T := ⟨S8192x1, .i1⟩) main_call7_v10) (cmpi .sle),
    TRef.binary (TRef.of (T := ⟨S8192x1, .i1⟩) main_call7_v7) (TRef.of (T := ⟨S8192x1, .i1⟩) main_call7_v10) (TRef.of (T := ⟨S8192x1, .i1⟩) main_call7_v11) andi,
    TRef.nullary (TRef.of (T := ⟨S_, .i1⟩) main_call7_c_3) (constantI S_ 1 1#1),
    TRef.binary (TRef.of (T := ⟨S8192x1, .i1⟩) main_call7_v11) (TRef.of (T := ⟨S_, .i1⟩) main_call7_c_3) (TRef.of (T := ⟨S8192, .i1⟩) main_call7_v12) (fun x v => Host.reduce IntOp.andi x v reducesTo_S8192x1_S8192_d1 h_S_),
    TRef.binary (TRef.of (T := ⟨S1024x256, .f32⟩) main_v79) (TRef.of (T := ⟨S8192x1, .i32⟩) main_call7_v5) (TRef.of (T := ⟨S8192x256, .f32⟩) main_call7_v13) (fun x i => Host.gather gather_S1024x256_S8192x1_S8192x256_1_0_n_n_0_1_1256 x i),
    TRef.unary (TRef.of (T := ⟨S8192, .i1⟩) main_call7_v12) (TRef.of (T := ⟨S8192x256, .i1⟩) main_call7_v14) (broadcastInDim S8192x256 ![0] bcast_S8192_S8192x256_0),
    TRef.nullary (TRef.of (T := ⟨S_, .f32⟩) main_call7_cst) (constant S_ .f32 0x7FC00000#32),
    TRef.unary (TRef.of (T := ⟨S_, .f32⟩) main_call7_cst) (TRef.of (T := ⟨S8192x256, .f32⟩) main_call7_v15) (broadcastInDim S8192x256 ![] bcast_S_S8192x256),
    TRef.ternary (TRef.of (T := ⟨S8192x256, .i1⟩) main_call7_v14) (TRef.of (T := ⟨S8192x256, .f32⟩) main_call7_v13) (TRef.of (T := ⟨S8192x256, .f32⟩) main_call7_v15) (TRef.of (T := ⟨S8192x256, .f32⟩) main_v95) select ]

/-- Operations of stage 2: loss, running sum, residual and usage of the codes. -/
abbrev rest2 : OpList F :=
  [ binary main_v65 main_v95 main_v96 (subf : (⟨S8192x256, .f32⟩ : BufTy).Contents (Elt F) → (⟨S8192x256, .f32⟩ : BufTy).Contents (Elt F) → (⟨S8192x256, .f32⟩ : BufTy).Contents (Elt F)),
    binary main_v96 main_v96 main_v97 (mulf : (⟨S8192x256, .f32⟩ : BufTy).Contents (Elt F) → (⟨S8192x256, .f32⟩ : BufTy).Contents (Elt F) → (⟨S8192x256, .f32⟩ : BufTy).Contents (Elt F)),
    nullary main_cst_25 (constant S_ .f32 0x00000000#32),
    binary main_v97 main_cst_25 main_v98 ((fun x v => Host.reduceAdd x v reducesTo_S8192x256_S_d0_1 h_S_) : (⟨S8192x256, .f32⟩ : BufTy).Contents (Elt F) → (⟨S_, .f32⟩ : BufTy).Contents (Elt F) → (⟨S_, .f32⟩ : BufTy).Contents (Elt F)),
    nullary main_cst_26 (constant S_ .f32 0x4A000000#32),
    binary main_v98 main_cst_26 main_v99 (Host.divf : (⟨S_, .f32⟩ : BufTy).Contents (Elt F) → (⟨S_, .f32⟩ : BufTy).Contents (Elt F) → (⟨S_, .f32⟩ : BufTy).Contents (Elt F)),
    nullary main_cst_27 (constant S_ .f32 0x3E800000#32),
    binary main_cst_27 main_v99 main_v100 (mulf : (⟨S_, .f32⟩ : BufTy).Contents (Elt F) → (⟨S_, .f32⟩ : BufTy).Contents (Elt F) → (⟨S_, .f32⟩ : BufTy).Contents (Elt F)),
    binary main_v63 main_v100 main_v101 (addf : (⟨S_, .f32⟩ : BufTy).Contents (Elt F) → (⟨S_, .f32⟩ : BufTy).Contents (Elt F) → (⟨S_, .f32⟩ : BufTy).Contents (Elt F)),
    binary main_v64 main_v95 main_v102 (addf : (⟨S8192x256, .f32⟩ : BufTy).Contents (Elt F) → (⟨S8192x256, .f32⟩ : BufTy).Contents (Elt F) → (⟨S8192x256, .f32⟩ : BufTy).Contents (Elt F)),
    binary main_v65 main_v95 main_v103 (subf : (⟨S8192x256, .f32⟩ : BufTy).Contents (Elt F) → (⟨S8192x256, .f32⟩ : BufTy).Contents (Elt F) → (⟨S8192x256, .f32⟩ : BufTy).Contents (Elt F)),
    TRef.unary (TRef.of (T := ⟨S8192, .i32⟩) main_v94) (TRef.of (T := ⟨S8192x1, .i32⟩) main_call8_v0) (broadcastInDim S8192x1 ![0] bcast_S8192_S8192x1_0),
    TRef.nullary (TRef.of (T := ⟨S1x1024, .i32⟩) main_call8_v1) (iotaInDim S1x1024 32 1),
    TRef.unary (TRef.of (T := ⟨S8192x1, .i32⟩) main_call8_v0) (TRef.of (T := ⟨S8192x1024, .i32⟩) main_call8_v2) (broadcastInDim S8192x1024 ![0, 1] bcast_S8192x1_S8192x1024_0_1),
    TRef.unary (TRef.of (T := ⟨S1x1024, .i32⟩) main_call8_v1) (TRef.of (T := ⟨S8192x1024, .i32⟩) main_call8_v3) (broadcastInDim S8192x1024 ![0, 1] bcast_S1x1024_S8192x1024_0_1),
    TRef.binary (TRef.of (T := ⟨S8192x1024, .i32⟩) main_call8_v2) (TRef.of (T := ⟨S8192x1024, .i32⟩) main_call8_v3) (TRef.of (T := ⟨S8192x1024, .i1⟩) main_call8_v4) (cmpi .eq),
    TRef.unary (TRef.of (T := ⟨S8192x1024, .i1⟩) main_call8_v4) (TRef.of (T := ⟨S8192x1024, .f32⟩) main_v104) (uitofp .f32),
    nullary main_cst_28 (constant S_ .f32 0x00000000#32),
    binary main_v104 main_cst_28 main_v105 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    nullary main_cst_29 (constant S_ .f32 0x46000000#32),
    unary main_cst_29 main_v106 (broadcastInDim S1024 ![] bcast_S_S1024 : (⟨S_, .f32⟩ : BufTy).Contents (Elt F) → (⟨S1024, .f32⟩ : BufTy).Contents (Elt F)),
    binary main_v105 main_v106 main_v107 (Host.divf : (⟨S1024, .f32⟩ : BufTy).Contents (Elt F) → (⟨S1024, .f32⟩ : BufTy).Contents (Elt F) → (⟨S1024, .f32⟩ : BufTy).Contents (Elt F)),
    nullary main_cst_30 (constant S_ .f32 0x2EDBE6FF#32),
    unary main_cst_30 main_v108 (broadcastInDim S1024 ![] bcast_S_S1024 : (⟨S_, .f32⟩ : BufTy).Contents (Elt F) → (⟨S1024, .f32⟩ : BufTy).Contents (Elt F)),
    binary main_v107 main_v108 main_v109 (addf : (⟨S1024, .f32⟩ : BufTy).Contents (Elt F) → (⟨S1024, .f32⟩ : BufTy).Contents (Elt F) → (⟨S1024, .f32⟩ : BufTy).Contents (Elt F)),
    unary main_v109 main_v110 (Host.log : (⟨S1024, .f32⟩ : BufTy).Contents (Elt F) → (⟨S1024, .f32⟩ : BufTy).Contents (Elt F)),
    binary main_v107 main_v110 main_v111 (mulf : (⟨S1024, .f32⟩ : BufTy).Contents (Elt F) → (⟨S1024, .f32⟩ : BufTy).Contents (Elt F) → (⟨S1024, .f32⟩ : BufTy).Contents (Elt F)),
    nullary main_cst_31 (constant S_ .f32 0x00000000#32),
    binary main_v111 main_cst_31 main_v112 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v112 main_v113 (Host.negf : (⟨S_, .f32⟩ : BufTy).Contents (Elt F) → (⟨S_, .f32⟩ : BufTy).Contents (Elt F)),
    unary main_v113 main_v114 (Host.exp : (⟨S_, .f32⟩ : BufTy).Contents (Elt F) → (⟨S_, .f32⟩ : BufTy).Contents (Elt F)),
    binary main_v77 main_v114 main_v115 (addf : (⟨S_, .f32⟩ : BufTy).Contents (Elt F) → (⟨S_, .f32⟩ : BufTy).Contents (Elt F) → (⟨S_, .f32⟩ : BufTy).Contents (Elt F)) ]

/-- The operations that form the results. -/
abbrev tail : OpList F :=
  [ reshape main_v102 main_v116 (rfl : (.f32 : EltTy) = .f32) shapeCasts_S8192x256_S8x1024x256,
    binary main_v116 main_arg0 main_v117 (subf : (⟨S8x1024x256, .f32⟩ : BufTy).Contents (Elt F) → (⟨S8x1024x256, .f32⟩ : BufTy).Contents (Elt F) → (⟨S8x1024x256, .f32⟩ : BufTy).Contents (Elt F)),
    binary main_arg0 main_v117 main_v118 (addf : (⟨S8x1024x256, .f32⟩ : BufTy).Contents (Elt F) → (⟨S8x1024x256, .f32⟩ : BufTy).Contents (Elt F) → (⟨S8x1024x256, .f32⟩ : BufTy).Contents (Elt F)),
    nullary main_c (constantI S_ 32 0#32),
    unary main_c main_v119 (broadcastInDim S8192 ![] bcast_S_S8192 : (⟨S_, .i32⟩ : BufTy).Contents (Elt F) → (⟨S8192, .i32⟩ : BufTy).Contents (Elt F)),
    nullary main_c_32 (constantI S_ 32 1#32),
    unary main_c_32 main_v120 (broadcastInDim S8192 ![] bcast_S_S8192 : (⟨S_, .i32⟩ : BufTy).Contents (Elt F) → (⟨S8192, .i32⟩ : BufTy).Contents (Elt F)),
    binary main_v18 main_v120 main_v121 (muli : (⟨S8192, .i32⟩ : BufTy).Contents (Elt F) → (⟨S8192, .i32⟩ : BufTy).Contents (Elt F) → (⟨S8192, .i32⟩ : BufTy).Contents (Elt F)),
    binary main_v119 main_v121 main_v122 (addi : (⟨S8192, .i32⟩ : BufTy).Contents (Elt F) → (⟨S8192, .i32⟩ : BufTy).Contents (Elt F) → (⟨S8192, .i32⟩ : BufTy).Contents (Elt F)),
    nullary main_c_33 (constantI S_ 32 1024#32),
    unary main_c_33 main_v123 (broadcastInDim S8192 ![] bcast_S_S8192 : (⟨S_, .i32⟩ : BufTy).Contents (Elt F) → (⟨S8192, .i32⟩ : BufTy).Contents (Elt F)),
    binary main_v56 main_v123 main_v124 (muli : (⟨S8192, .i32⟩ : BufTy).Contents (Elt F) → (⟨S8192, .i32⟩ : BufTy).Contents (Elt F) → (⟨S8192, .i32⟩ : BufTy).Contents (Elt F)),
    binary main_v122 main_v124 main_v125 (addi : (⟨S8192, .i32⟩ : BufTy).Contents (Elt F) → (⟨S8192, .i32⟩ : BufTy).Contents (Elt F) → (⟨S8192, .i32⟩ : BufTy).Contents (Elt F)),
    nullary main_c_34 (constantI S_ 32 1048576#32),
    unary main_c_34 main_v126 (broadcastInDim S8192 ![] bcast_S_S8192 : (⟨S_, .i32⟩ : BufTy).Contents (Elt F) → (⟨S8192, .i32⟩ : BufTy).Contents (Elt F)),
    binary main_v94 main_v126 main_v127 (muli : (⟨S8192, .i32⟩ : BufTy).Contents (Elt F) → (⟨S8192, .i32⟩ : BufTy).Contents (Elt F) → (⟨S8192, .i32⟩ : BufTy).Contents (Elt F)),
    binary main_v125 main_v127 main_v128 (addi : (⟨S8192, .i32⟩ : BufTy).Contents (Elt F) → (⟨S8192, .i32⟩ : BufTy).Contents (Elt F) → (⟨S8192, .i32⟩ : BufTy).Contents (Elt F)),
    reshape main_v128 main_v129 (rfl : (.i32 : EltTy) = .i32) shapeCasts_S8192_S8x1024,
    nullary main_cst_35 (constant S_ .f32 0x40400000#32),
    binary main_v115 main_cst_35 main_v130 (Host.divf : (⟨S_, .f32⟩ : BufTy).Contents (Elt F) → (⟨S_, .f32⟩ : BufTy).Contents (Elt F) → (⟨S_, .f32⟩ : BufTy).Contents (Elt F)),
    reshape main_v118 main_v131 (rfl : (.f32 : EltTy) = .f32) shapeCasts_S8x1024x256_S8192x256,
    reshape main_v101 main_v132 (rfl : (.f32 : EltTy) = .f32) shapeCasts_S_S1x1,
    reshape main_v129 main_v133 (rfl : (.i32 : EltTy) = .i32) shapeCasts_S8x1024_S4x2048x1,
    reshape main_v130 main_v134 (rfl : (.f32 : EltTy) = .f32) shapeCasts_S_S1x1 ]

/-- The operations of the program's window 0. -/
def window0 : OpList F := near0 ++ take0 ++ rest0 ++ near1a

/-- The operations of the program's window 1. -/
def window1 : OpList F := near1b ++ take1 ++ rest1 ++ near2a

/-- The operations of the program's window 2. -/
def window2 : OpList F := near2b ++ take2 ++ rest2 ++ tail

/-- All the operations of the reference. -/
def all : OpList F := window0 ++ (window1 ++ window2)

set_option maxRecDepth 65536 in
theorem main_part0_eq (c : Dev nD) : main_part0 (F := F) c = seq window0 := rfl
set_option maxRecDepth 65536 in
theorem main_part1_eq (c : Dev nD) : main_part1 (F := F) c = seq window1 := rfl
set_option maxRecDepth 65536 in
theorem main_part2_eq (c : Dev nD) : main_part2 (F := F) c = seq window2 := rfl

/-- The reference's `main` runs exactly the listed operations. -/
theorem main_eq (c : Dev nD) : main (F := F) c = seq all := by
  rw [all, seq_append, seq_append, ← main_part0_eq c, ← main_part1_eq c, ← main_part2_eq c]; rfl

theorem scopedRefs_eq : (Finset.univ.filter fun b : Ref sig .tc => b.isScoped) = ∅ := by decide
theorem scopedSems_eq : (Finset.univ.filter fun sm : SemLoc sig => sm.isScoped .tc) = ∅ := by decide

theorem near0_sub : (near0 : OpList F).Forall fun op => op.bufs ⊆ tcRefs τ sig :=
  ⟨reshape_bufs_sub .., nullary_bufs_sub .., unary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub ..⟩
theorem near0_fresh : (near0 : OpList F).Forall fun op => op.fresh = ∅ := by
  simp only [List.Forall]; repeat' constructor
theorem take0_sub : (take0 : OpList F).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take0_fresh : (take0 : OpList F).Forall fun op => op.fresh = ∅ := by
  simp only [List.Forall]; repeat' constructor
theorem rest0_sub : (rest0 : OpList F).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub ..⟩
theorem rest0_fresh : (rest0 : OpList F).Forall fun op => op.fresh = ∅ := by
  simp only [List.Forall]; repeat' constructor
theorem near1a_sub : (near1a : OpList F).Forall fun op => op.bufs ⊆ tcRefs τ sig :=
  ⟨unary_bufs_sub .., reshape_bufs_sub .., binary_bufs_sub .., nullary_bufs_sub .., binary_bufs_sub .., unary_bufs_sub .., nullary_bufs_sub ..⟩
theorem near1a_fresh : (near1a : OpList F).Forall fun op => op.fresh = ∅ := by
  simp only [List.Forall]; repeat' constructor
theorem near1b_sub : (near1b : OpList F).Forall fun op => op.bufs ⊆ tcRefs τ sig :=
  ⟨unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub ..⟩
theorem near1b_fresh : (near1b : OpList F).Forall fun op => op.fresh = ∅ := by
  simp only [List.Forall]; repeat' constructor
theorem take1_sub : (take1 : OpList F).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take1_fresh : (take1 : OpList F).Forall fun op => op.fresh = ∅ := by
  simp only [List.Forall]; repeat' constructor
theorem rest1_sub : (rest1 : OpList F).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub ..⟩
theorem rest1_fresh : (rest1 : OpList F).Forall fun op => op.fresh = ∅ := by
  simp only [List.Forall]; repeat' constructor
theorem near2a_sub : (near2a : OpList F).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem near2a_fresh : (near2a : OpList F).Forall fun op => op.fresh = ∅ := by
  simp only [List.Forall]; repeat' constructor
theorem near2b_sub : (near2b : OpList F).Forall fun op => op.bufs ⊆ tcRefs τ sig :=
  ⟨nullary_bufs_sub .., nullary_bufs_sub .., nullary_bufs_sub .., quaternary_bufs_sub .., quaternary_bufs_sub ..⟩
theorem near2b_fresh : (near2b : OpList F).Forall fun op => op.fresh = ∅ := by
  simp only [List.Forall]; repeat' constructor
theorem take2_sub : (take2 : OpList F).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take2_fresh : (take2 : OpList F).Forall fun op => op.fresh = ∅ := by
  simp only [List.Forall]; repeat' constructor
theorem rest2_sub : (rest2 : OpList F).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub ..⟩
theorem rest2_fresh : (rest2 : OpList F).Forall fun op => op.fresh = ∅ := by
  simp only [List.Forall]; repeat' constructor
theorem tail_sub : (tail : OpList F).Forall fun op => op.bufs ⊆ tcRefs τ sig :=
  ⟨reshape_bufs_sub .., binary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., reshape_bufs_sub .., nullary_bufs_sub .., binary_bufs_sub .., reshape_bufs_sub .., reshape_bufs_sub .., reshape_bufs_sub .., reshape_bufs_sub ..⟩
theorem tail_fresh : (tail : OpList F).Forall fun op => op.fresh = ∅ := by
  simp only [List.Forall]; repeat' constructor
/-- Every operation touches device buffers only. -/
theorem all_sub : (all : OpList F).Forall fun op => op.bufs ⊆ tcRefs τ sig :=
  List.forall_iff_forall_mem.mpr fun op h => by
    simp only [all, window0, window1, window2, List.mem_append, or_assoc] at h
    rcases h with h | h | h | h | h | h | h | h | h | h | h | h
    exacts [List.forall_iff_forall_mem.mp near0_sub op h, List.forall_iff_forall_mem.mp take0_sub op h, List.forall_iff_forall_mem.mp rest0_sub op h, List.forall_iff_forall_mem.mp near1a_sub op h, List.forall_iff_forall_mem.mp near1b_sub op h, List.forall_iff_forall_mem.mp take1_sub op h, List.forall_iff_forall_mem.mp rest1_sub op h, List.forall_iff_forall_mem.mp near2a_sub op h, List.forall_iff_forall_mem.mp near2b_sub op h, List.forall_iff_forall_mem.mp take2_sub op h, List.forall_iff_forall_mem.mp rest2_sub op h, List.forall_iff_forall_mem.mp tail_sub op h]
/-- No operation draws a fresh buffer. -/
theorem all_fresh : ∀ op ∈ (all : OpList F), op.fresh = ∅ := fun op h => by
    simp only [all, window0, window1, window2, List.mem_append, or_assoc] at h
    rcases h with h | h | h | h | h | h | h | h | h | h | h | h
    exacts [List.forall_iff_forall_mem.mp near0_fresh op h, List.forall_iff_forall_mem.mp take0_fresh op h, List.forall_iff_forall_mem.mp rest0_fresh op h, List.forall_iff_forall_mem.mp near1a_fresh op h, List.forall_iff_forall_mem.mp near1b_fresh op h, List.forall_iff_forall_mem.mp take1_fresh op h, List.forall_iff_forall_mem.mp rest1_fresh op h, List.forall_iff_forall_mem.mp near2a_fresh op h, List.forall_iff_forall_mem.mp near2b_fresh op h, List.forall_iff_forall_mem.mp take2_fresh op h, List.forall_iff_forall_mem.mp rest2_fresh op h, List.forall_iff_forall_mem.mp tail_fresh op h]

end Cert.ReferenceIdeal.Ops

end
-- ==== Proof.RefStage.lean ====
module

public import proofs.«01_k».proof.Proof.RefOps

@[expose] public section

set_option maxRecDepth 16384

/-!
The reference's stages as functions of arrays: the distances of all rows to all codes, the index of the nearest
code, the lookup of the codes, the loss, the frequencies of the codes and the perplexity term of one stage, and
the four results.
-/

noncomputable section

namespace Cert.ReferenceIdeal.Stage

open Cert.ReferenceIdeal Cert.ReferenceIdeal.Gen Idealize.ShloMosaic

variable {F : FTy → Type} [FloatOps F]

/-- The squared distance of every row to every code, as ‖r‖² − (2 r)·C + ‖C‖². -/
def dist (r : FVec F S8192x256 .f32) (C : FVec F S1024x256 .f32) : FVec F S8192x1024 .f32 :=
  addf (subf (broadcastInDim S8192x1024 ![0, 1] bcast_S8192x1_S8192x1024_0_1 (broadcastInDim S8192x1 ![0] bcast_S8192_S8192x1_0
      (Host.reduceAdd (mulf r r) (constant S_ .f32 0x00000000#32) reducesTo_S8192x256_S8192_d1 h_S_)))
    (Host.dotGeneral dot_S8192x256_S256x1024_S8192x1024_1_0_0_1_n_n none
      (mulf (broadcastInDim S8192x256 ![] bcast_S_S8192x256 (constant S_ .f32 0x40000000#32)) r)
      (transpose S256x1024 [1, 0] C transposes_S1024x256_S256x1024_1_0)))
    (broadcastInDim S8192x1024 ![0, 1] bcast_S1x1024_S8192x1024_0_1 (broadcastInDim S1x1024 ![1] bcast_S1024_S1x1024_1
      (Host.reduceAdd (mulf C C) (constant S_ .f32 0x00000000#32) reducesTo_S1024x256_S1024_d1 h_S_)))

/-- The index of the least distance of every row. -/
def nearest (d : FVec F S8192x1024 .f32) : IVec S8192 32 :=
  fun j => (Host.argReduce reducer_argmin_f32_i32 d (iotaInDim S8192x1024 32 1) (constant S_ .f32 0x7F800000#32)
    (constantI S_ 32 0#32) reducesTo_S8192x1024_S8192_d1 h_S_ j).2

/-- The indices with 1024 added to the negative ones, as a column. -/
def wrap (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 1024#32))) idx)

/-- For every row, whether its index lies among the codes. -/
def inside (w : IVec S8192x1 32) : IVec S8192 1 :=
  Host.reduce IntOp.andi (andi (cmpi .sge w (broadcastInDim S8192x1 ![] bcast_S_S8192x1 (constantI S_ 32 0#32)))
    (cmpi .sle w (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_

/-- The codes at the given indices. -/
def lookup (C : FVec F S1024x256 .f32) (idx : IVec S8192 32) : FVec F S8192x256 .f32 :=
  select (broadcastInDim S8192x256 ![0] bcast_S8192_S8192x256_0 (inside (wrap idx)))
    (Host.gather gather_S1024x256_S8192x1_S8192x256_1_0_n_n_0_1_1256 C (wrap idx))
    (broadcastInDim S8192x256 ![] bcast_S_S8192x256 (constant S_ .f32 0x7FC00000#32))

/-- The loss of a stage from its remainders: a quarter of the mean of their squares. -/
def loss (d : FVec F S8192x256 .f32) : FVec F S_ .f32 :=
  mulf (constant S_ .f32 0x3E800000#32) (Host.divf (Host.reduceAdd (mulf d d) (constant S_ .f32 0x00000000#32)
    reducesTo_S8192x256_S_d0_1 h_S_) (constant S_ .f32 0x4A000000#32))

/-- The frequency of every code among the rows. -/
def freq (idx : IVec S8192 32) : FVec F S1024 .f32 :=
  Host.divf (Host.reduceAdd (uitofp .f32 (cmpi .eq
      (broadcastInDim S8192x1024 ![0, 1] bcast_S8192x1_S8192x1024_0_1 (broadcastInDim S8192x1 ![0] bcast_S8192_S8192x1_0 idx))
      (broadcastInDim S8192x1024 ![0, 1] bcast_S1x1024_S8192x1024_0_1 (iotaInDim S1x1024 32 1))))
    (constant S_ .f32 0x00000000#32) reducesTo_S8192x1024_S1024_d0 h_S_)
    (broadcastInDim S1024 ![] bcast_S_S1024 (constant S_ .f32 0x46000000#32))

/-- The exponential of the entropy of the frequencies. -/
def spread (p : FVec F S1024 .f32) : FVec F S_ .f32 :=
  Host.exp (Host.negf (Host.reduceAdd (mulf p (Host.log (addf p
    (broadcastInDim S1024 ![] bcast_S_S1024 (constant S_ .f32 0x2EDBE6FF#32)))))
    (constant S_ .f32 0x00000000#32) reducesTo_S1024_S_d0 h_S_))

/-- The quantized rows before the first stage: zero. -/
def zq0 : FVec F S8192x256 .f32 := broadcastInDim S8192x256 ![] bcast_S_S8192x256 (constant S_ .f32 0x00000000#32)

/-- Zero, where the sums over the stages begin. -/
def zero : FVec F S_ .f32 := constant S_ .f32 0x00000000#32

/-- The rows to quantize. -/
def rows (z : FVec F S8x1024x256 .f32) : FVec F S8192x256 .f32 := shapeCast _ z shapeCasts_S8x1024x256_S8192x256

/-- The codes of the first stage. -/
def codes0 (B : FVec F S3x1024x256 .f32) : FVec F S1024x256 .f32 :=
  shapeCast _ (extractStridedSlice S1x1024x256 ![0, 0, 0] B slices_S3x1024x256_S1x1024x256_0_0_0) shapeCasts_S1x1024x256_S1024x256

/-- The codes of the second stage. -/
def codes1 (B : FVec F S3x1024x256 .f32) : FVec F S1024x256 .f32 :=
  shapeCast _ (extractStridedSlice S1x1024x256 ![1, 0, 0] B slices_S3x1024x256_S1x1024x256_1_0_0) shapeCasts_S1x1024x256_S1024x256

/-- The codes of the third stage. -/
def codes2 (B : FVec F S3x1024x256 .f32) : FVec F S1024x256 .f32 :=
  shapeCast _ (extractStridedSlice S1x1024x256 ![2, 0, 0] B slices_S3x1024x256_S1x1024x256_2_0_0) shapeCasts_S1x1024x256_S1024x256

/-- The first result: the rows plus the difference of the quantized rows and the rows. -/
def outZ (z : FVec F S8x1024x256 .f32) (zq : FVec F S8192x256 .f32) : FVec F S8192x256 .f32 :=
  shapeCast _ (addf z (subf (shapeCast _ zq shapeCasts_S8192x256_S8x1024x256) z)) shapeCasts_S8x1024x256_S8192x256

/-- The second result: the total loss. -/
def outL (l : FVec F S_ .f32) : FVec F S1x1 .f32 := shapeCast _ l shapeCasts_S_S1x1

/-- The third result: the three indices of every row as the digits of one number to the base 1024. -/
def outC (i0 i1 i2 : IVec S8192 32) : IVec S4x2048x1 32 :=
  shapeCast _ (shapeCast _ (addi (addi (addi (broadcastInDim S8192 ![] bcast_S_S8192 (constantI S_ 32 0#32))
      (muli i0 (broadcastInDim S8192 ![] bcast_S_S8192 (constantI S_ 32 1#32))))
      (muli i1 (broadcastInDim S8192 ![] bcast_S_S8192 (constantI S_ 32 1024#32))))
      (muli i2 (broadcastInDim S8192 ![] bcast_S_S8192 (constantI S_ 32 1048576#32)))) shapeCasts_S8192_S8x1024) shapeCasts_S8x1024_S4x2048x1

/-- The fourth result: the mean of the three perplexities. -/
def outP (p : FVec F S_ .f32) : FVec F S1x1 .f32 :=
  shapeCast _ (Host.divf p (constant S_ .f32 0x40400000#32)) shapeCasts_S_S1x1

section Chain

variable (z : FVec F S8x1024x256 .f32) (B : FVec F S3x1024x256 .f32)

/-- The nearest codes of the first stage. -/
def idx0 : IVec S8192 32 := nearest (dist (rows z) (codes0 B))

/-- The codes found by the first stage. -/
def q0 : FVec F S8192x256 .f32 := lookup (codes0 B) (idx0 z B)

/-- The remainders after the first stage. -/
def rows1 : FVec F S8192x256 .f32 := subf (rows z) (q0 z B)

/-- The nearest codes of the second stage. -/
def idx1 : IVec S8192 32 := nearest (dist (rows1 z B) (codes1 B))

/-- The codes found by the second stage. -/
def q1 : FVec F S8192x256 .f32 := lookup (codes1 B) (idx1 z B)

/-- The remainders after the second stage. -/
def rows2 : FVec F S8192x256 .f32 := subf (rows1 z B) (q1 z B)

/-- The nearest codes of the third stage. -/
def idx2 : IVec S8192 32 := nearest (dist (rows2 z B) (codes2 B))

/-- The codes found by the third stage. -/
def q2 : FVec F S8192x256 .f32 := lookup (codes2 B) (idx2 z B)

/-- The first result of the arguments. -/
def resZ : FVec F S8192x256 .f32 := outZ z (addf (addf (addf zq0 (q0 z B)) (q1 z B)) (q2 z B))

/-- The second result of the arguments. -/
def resL : FVec F S1x1 .f32 :=
  outL (addf (addf (addf zero (loss (subf (rows z) (q0 z B)))) (loss (subf (rows1 z B) (q1 z B)))) (loss (subf (rows2 z B) (q2 z B))))

/-- The third result of the arguments. -/
def resC : IVec S4x2048x1 32 := outC (idx0 z B) (idx1 z B) (idx2 z B)

/-- The fourth result of the arguments. -/
def resP : FVec F S1x1 .f32 :=
  outP (addf (addf (addf zero (spread (freq (idx0 z B)))) (spread (freq (idx1 z B)))) (spread (freq (idx2 z B))))

end Chain

end Cert.ReferenceIdeal.Stage

end
-- ==== Proof.RefRun.lean ====
module

public import proofs.«01_k».proof.Proof.RefStage
public import Idealize.ShloMosaic.Lib.Quiescent

@[expose] public section

set_option Elab.async false
set_option maxRecDepth 16384

/-!
The reference's run: what every piece of its operation list leaves in the buffers the later pieces read, stated
over any buffer contents before it, and the whole run's results as the stage functions of the arguments.
-/

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The buffers the operations of `near0` write. -/
abbrev near0W : List (Ref sig .tc) := [main_v0, main_cst, main_v1, main_v2, main_v3, main_v4, main_cst_0, main_v5, main_v6, main_cst_1, main_v7, main_v8, main_v9, main_v10, main_v11, main_v12, main_v13, main_cst_2, main_v14, main_v15, main_v16, main_v17, main_call0_v0, main_call0_cst, main_call0_c, main_call0_v1_0, main_v18]

/-- The buffer contents after the operations of `near0`. -/
def step_near0 (V : Valuation τ sig (Elt F)) : Valuation τ sig (Elt F) := after near0 V

/-- A buffer `near0` does not write keeps its contents. -/
theorem near0_keep (V : Valuation τ sig (Elt F)) (r : Ref sig .tc) (h : r ∉ near0W) :
    step_near0 V (no_index (Proc.devRef .tc r)) = V (Proc.devRef .tc r) :=
  after_of_writes_sub near0 _ (forall_writes_sub_of_map rfl) h

set_option maxHeartbeats 2000000 in
/-- The rows to quantize. -/
theorem near0_v0 (V : Valuation τ sig (Elt F)) : step_near0 V (no_index (Proc.devRef .tc main_v0)) = Stage.rows (V (Proc.devRef .tc main_arg0)) := by
  unfold step_near0
  simp only [near0, TRef.binary, TRef.nullary, TRef.unary, TRef.ternary, TRef.quaternary, TRef.toBuf, TRef.ofBuf, cast_eq]
  after_results_simp <;> rfl

set_option maxHeartbeats 2000000 in
/-- The quantized rows before the first stage. -/
theorem near0_v1 (V : Valuation τ sig (Elt F)) : step_near0 V (no_index (Proc.devRef .tc main_v1)) = Stage.zq0 := by
  unfold step_near0
  simp only [near0, TRef.binary, TRef.nullary, TRef.unary, TRef.ternary, TRef.quaternary, TRef.toBuf, TRef.ofBuf, cast_eq]
  after_results_simp <;> rfl

set_option maxHeartbeats 2000000 in
/-- The codes of the stage. -/
theorem near0_v3 (V : Valuation τ sig (Elt F)) : step_near0 V (no_index (Proc.devRef .tc main_v3)) = Stage.codes0 (V (Proc.devRef .tc main_arg1)) := by
  unfold step_near0
  simp only [near0, TRef.binary, TRef.nullary, TRef.unary, TRef.ternary, TRef.quaternary, TRef.toBuf, TRef.ofBuf, cast_eq]
  after_results_simp <;> rfl

set_option maxHeartbeats 2000000 in
/-- The nearest codes of the stage. -/
theorem near0_v18 (V : Valuation τ sig (Elt F)) : step_near0 V (no_index (Proc.devRef .tc main_v18)) = Stage.nearest (Stage.dist (Stage.rows (V (Proc.devRef .tc main_arg0))) (Stage.codes0 (V (Proc.devRef .tc main_arg1)))) := by
  unfold step_near0
  simp only [near0, TRef.binary, TRef.nullary, TRef.unary, TRef.ternary, TRef.quaternary, TRef.toBuf, TRef.ofBuf, cast_eq]
  after_results_simp <;> rfl

/-- The buffers the operations of `take0` write. -/
abbrev take0W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19]

/-- The buffer contents after the operations of `take0`. -/
def step_take0 (V : Valuation τ sig (Elt F)) : Valuation τ sig (Elt F) := after take0 V

/-- A buffer `take0` does not write keeps its contents. -/
theorem take0_keep (V : Valuation τ sig (Elt F)) (r : Ref sig .tc) (h : r ∉ take0W) :
    step_take0 V (no_index (Proc.devRef .tc r)) = V (Proc.devRef .tc r) :=
  after_of_writes_sub take0 _ (forall_writes_sub_of_map rfl) h

set_option maxHeartbeats 2000000 in
/-- The codes looked up. -/
theorem take0_v19 (V : Valuation τ sig (Elt F)) : step_take0 V (no_index (Proc.devRef .tc main_v19)) = Stage.lookup (V (Proc.devRef .tc main_v3)) (V (Proc.devRef .tc main_v18)) := by
  unfold step_take0
  simp only [take0, TRef.binary, TRef.nullary, TRef.unary, TRef.ternary, TRef.quaternary, TRef.toBuf, TRef.ofBuf, cast_eq]
  after_results_simp <;> rfl

/-- The buffers the operations of `rest0` write. -/
abbrev rest0W : List (Ref sig .tc) := [main_v20, main_v21, main_cst_3, main_v22, main_cst_4, main_v23, main_cst_5, main_v24, main_cst_6, main_v25, main_v26, main_v27, main_call2_v0, main_call2_v1, main_call2_v2, main_call2_v3, main_call2_v4, main_v28, main_cst_7, main_v29, main_cst_8, main_v30, main_v31, main_cst_9, main_v32, main_v33, main_v34, main_v35, main_cst_10, main_v36, main_v37, main_v38, main_cst_11, main_v39]

/-- The buffer contents after the operations of `rest0`. -/
def step_rest0 (V : Valuation τ sig (Elt F)) : Valuation τ sig (Elt F) := after rest0 V

/-- A buffer `rest0` does not write keeps its contents. -/
theorem rest0_keep (V : Valuation τ sig (Elt F)) (r : Ref sig .tc) (h : r ∉ rest0W) :
    step_rest0 V (no_index (Proc.devRef .tc r)) = V (Proc.devRef .tc r) :=
  after_of_writes_sub rest0 _ (forall_writes_sub_of_map rfl) h

set_option maxHeartbeats 2000000 in
/-- The loss so far. -/
theorem rest0_v25 (V : Valuation τ sig (Elt F)) : step_rest0 V (no_index (Proc.devRef .tc main_v25)) = addf Stage.zero (Stage.loss (subf (V (Proc.devRef .tc main_v0)) (V (Proc.devRef .tc main_v19)))) := by
  unfold step_rest0
  simp only [rest0, TRef.binary, TRef.nullary, TRef.unary, TRef.ternary, TRef.quaternary, TRef.toBuf, TRef.ofBuf, cast_eq]
  after_results_simp <;> rfl

set_option maxHeartbeats 2000000 in
/-- The quantized rows so far. -/
theorem rest0_v26 (V : Valuation τ sig (Elt F)) : step_rest0 V (no_index (Proc.devRef .tc main_v26)) = addf (V (Proc.devRef .tc main_v1)) (V (Proc.devRef .tc main_v19)) := by
  unfold step_rest0
  simp only [rest0, TRef.binary, TRef.nullary, TRef.unary, TRef.ternary, TRef.quaternary, TRef.toBuf, TRef.ofBuf, cast_eq]
  after_results_simp <;> rfl

set_option maxHeartbeats 2000000 in
/-- The remainders. -/
theorem rest0_v27 (V : Valuation τ sig (Elt F)) : step_rest0 V (no_index (Proc.devRef .tc main_v27)) = subf (V (Proc.devRef .tc main_v0)) (V (Proc.devRef .tc main_v19)) := by
  unfold step_rest0
  simp only [rest0, TRef.binary, TRef.nullary, TRef.unary, TRef.ternary, TRef.quaternary, TRef.toBuf, TRef.ofBuf, cast_eq]
  after_results_simp <;> rfl

set_option maxHeartbeats 2000000 in
/-- The perplexities so far. -/
theorem rest0_v39 (V : Valuation τ sig (Elt F)) : step_rest0 V (no_index (Proc.devRef .tc main_v39)) = addf Stage.zero (Stage.spread (Stage.freq (V (Proc.devRef .tc main_v18)))) := by
  unfold step_rest0
  simp only [rest0, TRef.binary, TRef.nullary, TRef.unary, TRef.ternary, TRef.quaternary, TRef.toBuf, TRef.ofBuf, cast_eq]
  after_results_simp <;> rfl

/-- The two halves of the search of stage 1. -/
abbrev near1 : OpList F := near1a ++ near1b

/-- The buffers the operations of `near1` write. -/
abbrev near1W : List (Ref sig .tc) := [main_v40, main_v41, main_v42, main_cst_12, main_v43, main_v44, main_cst_13, main_v45, main_v46, main_v47, main_v48, main_v49, main_v50, main_v51, main_cst_14, main_v52, main_v53, main_v54, main_v55, main_call3_v0, main_call3_cst, main_call3_c, main_call3_v1_0, main_v56]

/-- The buffer contents after the operations of `near1`. -/
def step_near1 (V : Valuation τ sig (Elt F)) : Valuation τ sig (Elt F) := after near1 V

/-- A buffer `near1` does not write keeps its contents. -/
theorem near1_keep (V : Valuation τ sig (Elt F)) (r : Ref sig .tc) (h : r ∉ near1W) :
    step_near1 V (no_index (Proc.devRef .tc r)) = V (Proc.devRef .tc r) :=
  after_of_writes_sub near1 _ (forall_writes_sub_of_map rfl) h

set_option maxHeartbeats 2000000 in
/-- The codes of the stage. -/
theorem near1_v41 (V : Valuation τ sig (Elt F)) : step_near1 V (no_index (Proc.devRef .tc main_v41)) = Stage.codes1 (V (Proc.devRef .tc main_arg1)) := by
  unfold step_near1
  simp only [near1, near1a, near1b, List.cons_append, List.nil_append, TRef.binary, TRef.nullary, TRef.unary, TRef.ternary, TRef.quaternary, TRef.toBuf, TRef.ofBuf, cast_eq]
  after_results_simp <;> rfl

set_option maxHeartbeats 2000000 in
/-- The nearest codes of the stage. -/
theorem near1_v56 (V : Valuation τ sig (Elt F)) : step_near1 V (no_index (Proc.devRef .tc main_v56)) = Stage.nearest (Stage.dist (V (Proc.devRef .tc main_v27)) (Stage.codes1 (V (Proc.devRef .tc main_arg1)))) := by
  unfold step_near1
  simp only [near1, near1a, near1b, List.cons_append, List.nil_append, TRef.binary, TRef.nullary, TRef.unary, TRef.ternary, TRef.quaternary, TRef.toBuf, TRef.ofBuf, cast_eq]
  after_results_simp <;> rfl

/-- The buffers the operations of `take1` write. -/
abbrev take1W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v57]

/-- The buffer contents after the operations of `take1`. -/
def step_take1 (V : Valuation τ sig (Elt F)) : Valuation τ sig (Elt F) := after take1 V

/-- A buffer `take1` does not write keeps its contents. -/
theorem take1_keep (V : Valuation τ sig (Elt F)) (r : Ref sig .tc) (h : r ∉ take1W) :
    step_take1 V (no_index (Proc.devRef .tc r)) = V (Proc.devRef .tc r) :=
  after_of_writes_sub take1 _ (forall_writes_sub_of_map rfl) h

set_option maxHeartbeats 2000000 in
/-- The codes looked up. -/
theorem take1_v57 (V : Valuation τ sig (Elt F)) : step_take1 V (no_index (Proc.devRef .tc main_v57)) = Stage.lookup (V (Proc.devRef .tc main_v41)) (V (Proc.devRef .tc main_v56)) := by
  unfold step_take1
  simp only [take1, TRef.binary, TRef.nullary, TRef.unary, TRef.ternary, TRef.quaternary, TRef.toBuf, TRef.ofBuf, cast_eq]
  after_results_simp <;> rfl

/-- The buffers the operations of `rest1` write. -/
abbrev rest1W : List (Ref sig .tc) := [main_v58, main_v59, main_cst_15, main_v60, main_cst_16, main_v61, main_cst_17, main_v62, main_v63, main_v64, main_v65, main_call5_v0, main_call5_v1, main_call5_v2, main_call5_v3, main_call5_v4, main_v66, main_cst_18, main_v67, main_cst_19, main_v68, main_v69, main_cst_20, main_v70, main_v71, main_v72, main_v73, main_cst_21, main_v74, main_v75, main_v76, main_v77]

/-- The buffer contents after the operations of `rest1`. -/
def step_rest1 (V : Valuation τ sig (Elt F)) : Valuation τ sig (Elt F) := after rest1 V

/-- A buffer `rest1` does not write keeps its contents. -/
theorem rest1_keep (V : Valuation τ sig (Elt F)) (r : Ref sig .tc) (h : r ∉ rest1W) :
    step_rest1 V (no_index (Proc.devRef .tc r)) = V (Proc.devRef .tc r) :=
  after_of_writes_sub rest1 _ (forall_writes_sub_of_map rfl) h

set_option maxHeartbeats 2000000 in
/-- The loss so far. -/
theorem rest1_v63 (V : Valuation τ sig (Elt F)) : step_rest1 V (no_index (Proc.devRef .tc main_v63)) = addf (V (Proc.devRef .tc main_v25)) (Stage.loss (subf (V (Proc.devRef .tc main_v27)) (V (Proc.devRef .tc main_v57)))) := by
  unfold step_rest1
  simp only [rest1, TRef.binary, TRef.nullary, TRef.unary, TRef.ternary, TRef.quaternary, TRef.toBuf, TRef.ofBuf, cast_eq]
  after_results_simp <;> rfl

set_option maxHeartbeats 2000000 in
/-- The quantized rows so far. -/
theorem rest1_v64 (V : Valuation τ sig (Elt F)) : step_rest1 V (no_index (Proc.devRef .tc main_v64)) = addf (V (Proc.devRef .tc main_v26)) (V (Proc.devRef .tc main_v57)) := by
  unfold step_rest1
  simp only [rest1, TRef.binary, TRef.nullary, TRef.unary, TRef.ternary, TRef.quaternary, TRef.toBuf, TRef.ofBuf, cast_eq]
  after_results_simp <;> rfl

set_option maxHeartbeats 2000000 in
/-- The remainders. -/
theorem rest1_v65 (V : Valuation τ sig (Elt F)) : step_rest1 V (no_index (Proc.devRef .tc main_v65)) = subf (V (Proc.devRef .tc main_v27)) (V (Proc.devRef .tc main_v57)) := by
  unfold step_rest1
  simp only [rest1, TRef.binary, TRef.nullary, TRef.unary, TRef.ternary, TRef.quaternary, TRef.toBuf, TRef.ofBuf, cast_eq]
  after_results_simp <;> rfl

set_option maxHeartbeats 2000000 in
/-- The perplexities so far. -/
theorem rest1_v77 (V : Valuation τ sig (Elt F)) : step_rest1 V (no_index (Proc.devRef .tc main_v77)) = addf (V (Proc.devRef .tc main_v39)) (Stage.spread (Stage.freq (V (Proc.devRef .tc main_v56)))) := by
  unfold step_rest1
  simp only [rest1, TRef.binary, TRef.nullary, TRef.unary, TRef.ternary, TRef.quaternary, TRef.toBuf, TRef.ofBuf, cast_eq]
  after_results_simp <;> rfl

/-- The two halves of the search of stage 2. -/
abbrev near2 : OpList F := near2a ++ near2b

/-- The buffers the operations of `near2` write. -/
abbrev near2W : List (Ref sig .tc) := [main_v78, main_v79, main_v80, main_cst_22, main_v81, main_v82, main_cst_23, main_v83, main_v84, main_v85, main_v86, main_v87, main_v88, main_v89, main_cst_24, main_v90, main_v91, main_v92, main_v93, main_call6_v0, main_call6_cst, main_call6_c, main_call6_v1_0, main_v94]

/-- The buffer contents after the operations of `near2`. -/
def step_near2 (V : Valuation τ sig (Elt F)) : Valuation τ sig (Elt F) := after near2 V

/-- A buffer `near2` does not write keeps its contents. -/
theorem near2_keep (V : Valuation τ sig (Elt F)) (r : Ref sig .tc) (h : r ∉ near2W) :
    step_near2 V (no_index (Proc.devRef .tc r)) = V (Proc.devRef .tc r) :=
  after_of_writes_sub near2 _ (forall_writes_sub_of_map rfl) h

set_option maxHeartbeats 2000000 in
/-- The codes of the stage. -/
theorem near2_v79 (V : Valuation τ sig (Elt F)) : step_near2 V (no_index (Proc.devRef .tc main_v79)) = Stage.codes2 (V (Proc.devRef .tc main_arg1)) := by
  unfold step_near2
  simp only [near2, near2a, near2b, List.cons_append, List.nil_append, TRef.binary, TRef.nullary, TRef.unary, TRef.ternary, TRef.quaternary, TRef.toBuf, TRef.ofBuf, cast_eq]
  after_results_simp <;> rfl

set_option maxHeartbeats 2000000 in
/-- The nearest codes of the stage. -/
theorem near2_v94 (V : Valuation τ sig (Elt F)) : step_near2 V (no_index (Proc.devRef .tc main_v94)) = Stage.nearest (Stage.dist (V (Proc.devRef .tc main_v65)) (Stage.codes2 (V (Proc.devRef .tc main_arg1)))) := by
  unfold step_near2
  simp only [near2, near2a, near2b, List.cons_append, List.nil_append, TRef.binary, TRef.nullary, TRef.unary, TRef.ternary, TRef.quaternary, TRef.toBuf, TRef.ofBuf, cast_eq]
  after_results_simp <;> rfl

/-- The buffers the operations of `take2` write. -/
abbrev take2W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v95]

/-- The buffer contents after the operations of `take2`. -/
def step_take2 (V : Valuation τ sig (Elt F)) : Valuation τ sig (Elt F) := after take2 V

/-- A buffer `take2` does not write keeps its contents. -/
theorem take2_keep (V : Valuation τ sig (Elt F)) (r : Ref sig .tc) (h : r ∉ take2W) :
    step_take2 V (no_index (Proc.devRef .tc r)) = V (Proc.devRef .tc r) :=
  after_of_writes_sub take2 _ (forall_writes_sub_of_map rfl) h

set_option maxHeartbeats 2000000 in
/-- The codes looked up. -/
theorem take2_v95 (V : Valuation τ sig (Elt F)) : step_take2 V (no_index (Proc.devRef .tc main_v95)) = Stage.lookup (V (Proc.devRef .tc main_v79)) (V (Proc.devRef .tc main_v94)) := by
  unfold step_take2
  simp only [take2, TRef.binary, TRef.nullary, TRef.unary, TRef.ternary, TRef.quaternary, TRef.toBuf, TRef.ofBuf, cast_eq]
  after_results_simp <;> rfl

/-- The buffers the operations of `rest2` write. -/
abbrev rest2W : List (Ref sig .tc) := [main_v96, main_v97, main_cst_25, main_v98, main_cst_26, main_v99, main_cst_27, main_v100, main_v101, main_v102, main_v103, main_call8_v0, main_call8_v1, main_call8_v2, main_call8_v3, main_call8_v4, main_v104, main_cst_28, main_v105, main_cst_29, main_v106, main_v107, main_cst_30, main_v108, main_v109, main_v110, main_v111, main_cst_31, main_v112, main_v113, main_v114, main_v115]

/-- The buffer contents after the operations of `rest2`. -/
def step_rest2 (V : Valuation τ sig (Elt F)) : Valuation τ sig (Elt F) := after rest2 V

/-- A buffer `rest2` does not write keeps its contents. -/
theorem rest2_keep (V : Valuation τ sig (Elt F)) (r : Ref sig .tc) (h : r ∉ rest2W) :
    step_rest2 V (no_index (Proc.devRef .tc r)) = V (Proc.devRef .tc r) :=
  after_of_writes_sub rest2 _ (forall_writes_sub_of_map rfl) h

set_option maxHeartbeats 2000000 in
/-- The loss so far. -/
theorem rest2_v101 (V : Valuation τ sig (Elt F)) : step_rest2 V (no_index (Proc.devRef .tc main_v101)) = addf (V (Proc.devRef .tc main_v63)) (Stage.loss (subf (V (Proc.devRef .tc main_v65)) (V (Proc.devRef .tc main_v95)))) := by
  unfold step_rest2
  simp only [rest2, TRef.binary, TRef.nullary, TRef.unary, TRef.ternary, TRef.quaternary, TRef.toBuf, TRef.ofBuf, cast_eq]
  after_results_simp <;> rfl

set_option maxHeartbeats 2000000 in
/-- The quantized rows so far. -/
theorem rest2_v102 (V : Valuation τ sig (Elt F)) : step_rest2 V (no_index (Proc.devRef .tc main_v102)) = addf (V (Proc.devRef .tc main_v64)) (V (Proc.devRef .tc main_v95)) := by
  unfold step_rest2
  simp only [rest2, TRef.binary, TRef.nullary, TRef.unary, TRef.ternary, TRef.quaternary, TRef.toBuf, TRef.ofBuf, cast_eq]
  after_results_simp <;> rfl

set_option maxHeartbeats 2000000 in
/-- The remainders. -/
theorem rest2_v103 (V : Valuation τ sig (Elt F)) : step_rest2 V (no_index (Proc.devRef .tc main_v103)) = subf (V (Proc.devRef .tc main_v65)) (V (Proc.devRef .tc main_v95)) := by
  unfold step_rest2
  simp only [rest2, TRef.binary, TRef.nullary, TRef.unary, TRef.ternary, TRef.quaternary, TRef.toBuf, TRef.ofBuf, cast_eq]
  after_results_simp <;> rfl

set_option maxHeartbeats 2000000 in
/-- The perplexities so far. -/
theorem rest2_v115 (V : Valuation τ sig (Elt F)) : step_rest2 V (no_index (Proc.devRef .tc main_v115)) = addf (V (Proc.devRef .tc main_v77)) (Stage.spread (Stage.freq (V (Proc.devRef .tc main_v94)))) := by
  unfold step_rest2
  simp only [rest2, TRef.binary, TRef.nullary, TRef.unary, TRef.ternary, TRef.quaternary, TRef.toBuf, TRef.ofBuf, cast_eq]
  after_results_simp <;> rfl

/-- The buffers the operations of `tail` write. -/
abbrev tailW : List (Ref sig .tc) := [main_v116, main_v117, main_v118, main_c, main_v119, main_c_32, main_v120, main_v121, main_v122, main_c_33, main_v123, main_v124, main_v125, main_c_34, main_v126, main_v127, main_v128, main_v129, main_cst_35, main_v130, main_v131, main_v132, main_v133, main_v134]

/-- The buffer contents after the operations of `tail`. -/
def step_tail (V : Valuation τ sig (Elt F)) : Valuation τ sig (Elt F) := after tail V

/-- A buffer `tail` does not write keeps its contents. -/
theorem tail_keep (V : Valuation τ sig (Elt F)) (r : Ref sig .tc) (h : r ∉ tailW) :
    step_tail V (no_index (Proc.devRef .tc r)) = V (Proc.devRef .tc r) :=
  after_of_writes_sub tail _ (forall_writes_sub_of_map rfl) h

set_option maxHeartbeats 2000000 in
/-- The first result. -/
theorem tail_v131 (V : Valuation τ sig (Elt F)) : step_tail V (no_index (Proc.devRef .tc main_v131)) = Stage.outZ (V (Proc.devRef .tc main_arg0)) (V (Proc.devRef .tc main_v102)) := by
  unfold step_tail
  simp only [tail, TRef.binary, TRef.nullary, TRef.unary, TRef.ternary, TRef.quaternary, TRef.toBuf, TRef.ofBuf, cast_eq]
  after_results_simp <;> rfl

set_option maxHeartbeats 2000000 in
/-- The second result. -/
theorem tail_v132 (V : Valuation τ sig (Elt F)) : step_tail V (no_index (Proc.devRef .tc main_v132)) = Stage.outL (V (Proc.devRef .tc main_v101)) := by
  unfold step_tail
  simp only [tail, TRef.binary, TRef.nullary, TRef.unary, TRef.ternary, TRef.quaternary, TRef.toBuf, TRef.ofBuf, cast_eq]
  after_results_simp <;> rfl

set_option maxHeartbeats 2000000 in
/-- The third result. -/
theorem tail_v133 (V : Valuation τ sig (Elt F)) : step_tail V (no_index (Proc.devRef .tc main_v133)) = Stage.outC (V (Proc.devRef .tc main_v18)) (V (Proc.devRef .tc main_v56)) (V (Proc.devRef .tc main_v94)) := by
  unfold step_tail
  simp only [tail, TRef.binary, TRef.nullary, TRef.unary, TRef.ternary, TRef.quaternary, TRef.toBuf, TRef.ofBuf, cast_eq]
  after_results_simp <;> rfl

set_option maxHeartbeats 2000000 in
/-- The fourth result. -/
theorem tail_v134 (V : Valuation τ sig (Elt F)) : step_tail V (no_index (Proc.devRef .tc main_v134)) = Stage.outP (V (Proc.devRef .tc main_v115)) := by
  unfold step_tail
  simp only [tail, TRef.binary, TRef.nullary, TRef.unary, TRef.ternary, TRef.quaternary, TRef.toBuf, TRef.ofBuf, cast_eq]
  after_results_simp <;> rfl

/-- The whole list as its ten pieces one after the other. -/
theorem all_eq (V : Valuation τ sig (Elt F)) : after all V
    = step_tail (step_rest2 (step_take2 (step_near2 (step_rest1 (step_take1 (step_near1 (step_rest0 (step_take0 (step_near0 V))))))))) := by
  unfold step_tail step_rest2 step_take2 step_near2 step_rest1 step_take1 step_near1 step_rest0 step_take0 step_near0
  simp only [all, window0, window1, window2, near1, near2, after_append]

set_option maxHeartbeats 2000000 in
/-- What the reference leaves in `main_v131`. -/
theorem all_v131 (V : Valuation τ sig (Elt F)) : after all V (Proc.devRef .tc main_v131)
    = Stage.resZ (V (Proc.devRef .tc main_arg0)) (V (Proc.devRef .tc main_arg1)) := by
  rw [all_eq, tail_v131]
  simp (decide := true) only [near0_keep, near0_v0, near0_v1, near0_v3, near0_v18, take0_keep, take0_v19, rest0_keep, rest0_v25, rest0_v26, rest0_v27, rest0_v39, near1_keep, near1_v41, near1_v56, take1_keep, take1_v57, rest1_keep, rest1_v63, rest1_v64, rest1_v65, rest1_v77, near2_keep, near2_v79, near2_v94, take2_keep, take2_v95, rest2_keep, rest2_v101, rest2_v102, rest2_v103, rest2_v115]
  rfl

set_option maxHeartbeats 2000000 in
/-- What the reference leaves in `main_v132`. -/
theorem all_v132 (V : Valuation τ sig (Elt F)) : after all V (Proc.devRef .tc main_v132)
    = Stage.resL (V (Proc.devRef .tc main_arg0)) (V (Proc.devRef .tc main_arg1)) := by
  rw [all_eq, tail_v132]
  simp (decide := true) only [near0_keep, near0_v0, near0_v1, near0_v3, near0_v18, take0_keep, take0_v19, rest0_keep, rest0_v25, rest0_v26, rest0_v27, rest0_v39, near1_keep, near1_v41, near1_v56, take1_keep, take1_v57, rest1_keep, rest1_v63, rest1_v64, rest1_v65, rest1_v77, near2_keep, near2_v79, near2_v94, take2_keep, take2_v95, rest2_keep, rest2_v101, rest2_v102, rest2_v103, rest2_v115]
  rfl

set_option maxHeartbeats 2000000 in
/-- What the reference leaves in `main_v133`. -/
theorem all_v133 (V : Valuation τ sig (Elt F)) : after all V (Proc.devRef .tc main_v133)
    = Stage.resC (V (Proc.devRef .tc main_arg0)) (V (Proc.devRef .tc main_arg1)) := by
  rw [all_eq, tail_v133]
  simp (decide := true) only [near0_keep, near0_v0, near0_v1, near0_v3, near0_v18, take0_keep, take0_v19, rest0_keep, rest0_v25, rest0_v26, rest0_v27, rest0_v39, near1_keep, near1_v41, near1_v56, take1_keep, take1_v57, rest1_keep, rest1_v63, rest1_v64, rest1_v65, rest1_v77, near2_keep, near2_v79, near2_v94, take2_keep, take2_v95, rest2_keep, rest2_v101, rest2_v102, rest2_v103, rest2_v115]
  rfl

set_option maxHeartbeats 2000000 in
/-- What the reference leaves in `main_v134`. -/
theorem all_v134 (V : Valuation τ sig (Elt F)) : after all V (Proc.devRef .tc main_v134)
    = Stage.resP (V (Proc.devRef .tc main_arg0)) (V (Proc.devRef .tc main_arg1)) := by
  rw [all_eq, tail_v134]
  simp (decide := true) only [near0_keep, near0_v0, near0_v1, near0_v3, near0_v18, take0_keep, take0_v19, rest0_keep, rest0_v25, rest0_v26, rest0_v27, rest0_v39, near1_keep, near1_v41, near1_v56, take1_keep, take1_v57, rest1_keep, rest1_v63, rest1_v64, rest1_v65, rest1_v77, near2_keep, near2_v79, near2_v94, take2_keep, take2_v95, rest2_keep, rest2_v101, rest2_v102, rest2_v103, rest2_v115]
  rfl

/-- The reference keeps its argument `main_arg0`. -/
theorem all_arg0 (V : Valuation τ sig (Elt F)) : after all V (Proc.devRef .tc main_arg0) = V (Proc.devRef .tc main_arg0) := by
  rw [all_eq]
  simp (decide := true) only [near0_keep, take0_keep, rest0_keep, near1_keep, take1_keep, rest1_keep, near2_keep, take2_keep, rest2_keep, tail_keep]

/-- The reference keeps its argument `main_arg1`. -/
theorem all_arg1 (V : Valuation τ sig (Elt F)) : after all V (Proc.devRef .tc main_arg1) = V (Proc.devRef .tc main_arg1) := by
  rw [all_eq]
  simp (decide := true) only [near0_keep, take0_keep, rest0_keep, near1_keep, take1_keep, rest1_keep, near2_keep, take2_keep, rest2_keep, tail_keep]

/-- The reference's run: it terminates with the results at their stage terms, the arguments kept and no semaphore
    raised. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131) = Stage.resZ (m ((c.tc : Thread nD τ).loc main_arg0)) (m ((c.tc : Thread nD τ).loc main_arg1))
      ∧ r.2.mem ((c.tc : Thread nD τ).loc main_v132) = Stage.resL (m ((c.tc : Thread nD τ).loc main_arg0)) (m ((c.tc : Thread nD τ).loc main_arg1))
      ∧ r.2.mem ((c.tc : Thread nD τ).loc main_v133) = Stage.resC (m ((c.tc : Thread nD τ).loc main_arg0)) (m ((c.tc : Thread nD τ).loc main_arg1))
      ∧ r.2.mem ((c.tc : Thread nD τ).loc main_v134) = Stage.resP (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v131).trans (all_v131 (launchContents m c)),
      (h c main_v132).trans (all_v132 (launchContents m c)),
      (h c main_v133).trans (all_v133 (launchContents m c)),
      (h c main_v134).trans (all_v134 (launchContents m c)),
      (h c main_arg0).trans (all_arg0 (launchContents m c)),
      (h c main_arg1).trans (all_arg1 (launchContents m c))⟩)
    (run_seq scopedRefs_eq scopedSems_eq defs main (fun _ => all) main_eq (fun _ => all_sub) m ρ fun _ => all_fresh)

end Cert.ReferenceIdeal.Run

end
-- ==== Proof.Spec.lean ====
module

public import Idealize.ShloMosaic.PureOps.Ideal.Laws
public import Idealize.ShloMosaic.Lib.StableHlo.Predicate

@[expose] public section

open Idealize.ShloMosaic

/-! The mathematics of a residual vector quantizer over the extended reals: no program is named here. -/

namespace Quant

/-- A value that is a real number, no infinity. -/
def IsReal (x : EReal) : Prop := ∃ r : ℝ, x = (r : EReal)

theorem IsReal.sub {x y : EReal} (hx : IsReal x) (hy : IsReal y) : IsReal (x - y) := by
  obtain ⟨a, rfl⟩ := hx; obtain ⟨b, rfl⟩ := hy; exact ⟨a - b, by norm_cast⟩

theorem IsReal.add {x y : EReal} (hx : IsReal x) (hy : IsReal y) : IsReal (x + y) := by
  obtain ⟨a, rfl⟩ := hx; obtain ⟨b, rfl⟩ := hy; exact ⟨a + b, by norm_cast⟩

theorem IsReal.zero : IsReal 0 := ⟨0, rfl⟩

/-- A real plus the difference of another real from it is that other real. -/
theorem add_sub_self {x y : EReal} (hx : IsReal x) (hy : IsReal y) : x + (y - x) = y := by
  obtain ⟨a, rfl⟩ := hx; obtain ⟨b, rfl⟩ := hy
  norm_cast; ring_nf

/-- A finite sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! The literals. -/

theorem lit_two : Ideal.ofBits .f32 1073741824#32 = ((2 : ℝ) : EReal) := by
  simp [Ideal.ofBits, Ideal.ieee, -EReal.coe_mul]; norm_num
theorem lit_one : Ideal.ofBits .bf16 16256#16 = ((1 : ℝ) : EReal) := by
  simp [Ideal.ofBits, Ideal.ieee, -EReal.coe_mul]; norm_num
theorem lit_three : Ideal.ofBits .f32 1077936128#32 = ((3 : ℝ) : EReal) := by
  simp [Ideal.ofBits, Ideal.ieee, -EReal.coe_mul]; norm_num
theorem lit_quarter : Ideal.ofBits .f32 1048576000#32 = ((1 / 4 : ℝ) : EReal) := by
  simp [Ideal.ofBits, Ideal.ieee, -EReal.coe_mul]; norm_num
theorem lit_8192 : Ideal.ofBits .f32 1174405120#32 = ((8192 : ℝ) : EReal) := by
  simp [Ideal.ofBits, Ideal.ieee, -EReal.coe_mul]; norm_num
theorem lit_inv8192 : Ideal.ofBits .f32 956301312#32 = ((1 / 8192 : ℝ) : EReal) := by
  simp [Ideal.ofBits, Ideal.ieee, -EReal.coe_mul]; norm_num
theorem lit_2097152 : Ideal.ofBits .f32 1241513984#32 = ((2097152 : ℝ) : EReal) := by
  simp [Ideal.ofBits, Ideal.ieee, -EReal.coe_mul]; norm_num
theorem lit_scale : Ideal.ofBits .f32 872415232#32 = ((1 / 8388608 : ℝ) : EReal) := by
  simp [Ideal.ofBits, Ideal.ieee, -EReal.coe_mul]; norm_num
theorem lit_top : Ideal.ofBits .f32 2139095040#32 = ⊤ := by
  simp [Ideal.ofBits, Ideal.ieee, -EReal.coe_mul]

/-- Division by the number of rows is the product with its inverse. -/
theorem div_8192 (x : EReal) : Ideal.div x (Ideal.ofBits .f32 1174405120#32) = x * Ideal.ofBits .f32 956301312#32 := by
  rw [lit_8192, lit_inv8192, Ideal.div_coe (by norm_num)]

/-! The first least index of a family. -/

theorem exists_least (f : Fin 1024 → EReal) : (Finset.univ.filter fun k => ∀ j, f k ≤ f j).Nonempty := by
  obtain ⟨k, hk⟩ := Finite.exists_min f
  exact ⟨k, by simpa using hk⟩

/-- The first index at which `f` is least. -/
noncomputable def least (f : Fin 1024 → EReal) : Fin 1024 :=
  (Finset.univ.filter fun k => ∀ j, f k ≤ f j).min' (exists_least f)

theorem least_le (f : Fin 1024 → EReal) (j : Fin 1024) : f (least f) ≤ f j := by
  have h := Finset.min'_mem _ (exists_least f)
  exact (Finset.mem_filter.mp h).2 j

theorem least_first (f : Fin 1024 → EReal) (k : Fin 1024) (h : f k ≤ f (least f)) : least f ≤ k :=
  Finset.min'_le _ _ (by simpa using fun j => h.trans (least_le f j))

/-- An index whose value is least, and before every other such, is the first least index. -/
theorem least_eq (f : Fin 1024 → EReal) (k : Fin 1024) (h : ∀ j, f k ≤ f j) (h' : ∀ j, f j ≤ f k → k ≤ j) :
    least f = k :=
  le_antisymm (least_first f k (h _)) (h' _ (least_le f k))

/-- The minimum of the family is its value at the first least index. -/
theorem fold_min (f : Fin 1024 → EReal) :
    (Finset.univ.fold min (Ideal.ofBits .f32 2139095040#32) f) = f (least f) := by
  rw [lit_top]
  apply le_antisymm
  · exact (Finset.fold_min_le _).mpr (.inr ⟨least f, Finset.mem_univ _, le_rfl⟩)
  · exact (Finset.le_fold_min _).mpr ⟨le_top, fun j _ => least_le f j⟩

/-- The signed minimum of two words below the half range is the word of the minimum. -/
theorem minsi_ofNat (a b : Nat) :
    BitVec.ofNat 32 (min (min a b) 2147483647)
      = IntOp.minsi (BitVec.ofNat 32 (min a 2147483647)) (BitVec.ofNat 32 (min b 2147483647)) := by
  have h : (BitVec.ofNat 32 (min a 2147483647)).slt (BitVec.ofNat 32 (min b 2147483647)) = true
      ↔ min a 2147483647 < min b 2147483647 :=
    (StableHlo.Predicate.ofBool_eq_one_iff _).symm.trans
      (StableHlo.Predicate.slt_ofNat_iff _ _ (by omega) (by omega))
  unfold IntOp.minsi
  by_cases hc : min a 2147483647 < min b 2147483647
  · rw [if_pos (h.mpr hc)]; congr 1; omega
  · rw [if_neg (mt h.mp hc)]; congr 1; omega

/-- The least lane among those holding the minimum is the first least index. -/
theorem fold_lane (f : Fin 1024 → EReal) (w : Fin 1024 → BitVec 32)
    (hw : ∀ k, w k = if f k = f (least f) then BitVec.ofNat 32 k.val else 1024#32) :
    (Finset.univ.fold IntOp.minsi 2147483647#32 w) = BitVec.ofNat 32 (least f).val := by
  have hw' : w = fun k => BitVec.ofNat 32 (min (if f k = f (least f) then k.val else 1024) 2147483647) := by
    funext k; rw [hw]; have := k.isLt
    split <;> congr 1; omega
  rw [hw']
  refine (Finset.fold_hom (op := (min : Nat → Nat → Nat)) (op' := IntOp.minsi) (b := 2147483647)
    (m := fun n => BitVec.ofNat 32 (min n 2147483647)) (s := Finset.univ)
    (f := fun k : Fin 1024 => if f k = f (least f) then k.val else 1024) minsi_ofNat).trans ?_
  have h : (Finset.univ.fold min 2147483647 fun k : Fin 1024 => if f k = f (least f) then k.val else 1024)
      = (least f).val := by
    apply le_antisymm
    · exact (Finset.fold_min_le _).mpr (.inr ⟨least f, Finset.mem_univ _, by simp⟩)
    · refine (Finset.le_fold_min _).mpr ⟨by omega, fun k _ => ?_⟩
      split
      · next hk => exact Fin.le_def.mp (least_first f k hk.le)
      · omega
  have hl := (least f).isLt
  exact (congrArg (fun n => BitVec.ofNat 32 (min n 2147483647)) h).trans (congrArg (BitVec.ofNat 32) (by omega))

/-- Pairs in order: the value first, on equal values the index. -/
def Before (a b : EReal × BitVec 32) : Prop := a.1 < b.1 ∨ a.1 = b.1 ∧ a.2.toNat ≤ b.2.toNat

theorem Before.refl (a : EReal × BitVec 32) : Before a a := .inr ⟨rfl, le_rfl⟩

theorem Before.trans {a b c : EReal × BitVec 32} (h : Before a b) (h' : Before b c) : Before a c := by
  rcases h with h | ⟨h, i⟩ <;> rcases h' with h' | ⟨h', i'⟩
  · exact .inl (h.trans h')
  · exact .inl (h' ▸ h)
  · exact .inl (h ▸ h')
  · exact .inr ⟨h.trans h', i.trans i'⟩

/-- A fold that keeps the earlier of two pairs ends at one of the pairs, before all of them. -/
theorem foldl_before (step : EReal × BitVec 32 → EReal × BitVec 32 → EReal × BitVec 32)
    (P : EReal × BitVec 32 → Prop)
    (h : ∀ a b, P a → P b → (step a b = a ∧ Before a b) ∨ (step a b = b ∧ Before b a))
    (l : List (EReal × BitVec 32)) (a : EReal × BitVec 32) (ha : P a) (hl : ∀ p ∈ l, P p) :
    l.foldl step a ∈ a :: l ∧ ∀ p ∈ a :: l, Before (l.foldl step a) p := by
  induction l generalizing a with
  | nil => simpa using Before.refl a
  | cons b l ih =>
    have hb : P b := hl b (by simp)
    have hs : P (step a b) := by rcases h a b ha hb with ⟨e, _⟩ | ⟨e, _⟩ <;> rwa [e]
    obtain ⟨h1, h2⟩ := ih (step a b) hs fun p hp => hl p (by simp [hp])
    rw [List.foldl_cons]
    have hab : step a b ∈ a :: b :: l := by rcases h a b ha hb with ⟨e, _⟩ | ⟨e, _⟩ <;> rw [e] <;> simp
    have h0 := h2 _ (List.mem_cons_self)
    refine ⟨?_, fun p hp => ?_⟩
    · rcases List.mem_cons.mp h1 with h1 | h1
      · rwa [h1]
      · exact List.mem_cons_of_mem _ (List.mem_cons_of_mem _ h1)
    · rcases List.mem_cons.mp hp with rfl | hp
      · rcases h p b ha hb with ⟨e, i⟩ | ⟨e, i⟩
        · rwa [e] at h0 ⊢
        · rw [e] at h0 ⊢; exact h0.trans i
      · rcases List.mem_cons.mp hp with rfl | hp
        · rcases h a p ha hb with ⟨e, i⟩ | ⟨e, i⟩
          · rw [e] at h0 ⊢; exact h0.trans i
          · rwa [e] at h0 ⊢
        · exact h2 _ (List.mem_cons_of_mem _ hp)

/-- Such a fold over the pairs of a family and its indices, from the pair of the largest value and the index zero, ends
    at the first least index. -/
theorem foldl_least (step : EReal × BitVec 32 → EReal × BitVec 32 → EReal × BitVec 32)
    (h : ∀ a b, a.2.toNat < 1024 → b.2.toNat < 1024 →
      (step a b = a ∧ Before a b) ∨ (step a b = b ∧ Before b a))
    (f : Fin 1024 → EReal) (l : List (EReal × BitVec 32))
    (hl : ∀ p ∈ l, ∃ k : Fin 1024, p = (f k, BitVec.ofNat 32 k.val))
    (hall : ∀ k : Fin 1024, (f k, BitVec.ofNat 32 k.val) ∈ l) :
    (l.foldl step (⊤, 0#32)).2 = BitVec.ofNat 32 (least f).val := by
  have hn : ∀ k : Fin 1024, (BitVec.ofNat 32 k.val).toNat = k.val := fun k => by
    have := k.isLt; simp; omega
  obtain ⟨h1, h2⟩ := foldl_before step (fun p => p.2.toNat < 1024) h l (⊤, 0#32) (by simp) (fun p hp => by
    obtain ⟨k, rfl⟩ := hl p hp; show (BitVec.ofNat 32 k.val).toNat < 1024; rw [hn]; exact k.isLt)
  generalize l.foldl step (⊤, 0#32) = r at h1 h2
  rcases List.mem_cons.mp h1 with rfl | h1
  · have : least f = 0 := least_eq f 0
      (fun j => by
        rcases h2 _ (List.mem_cons_of_mem _ (hall j)) with h | ⟨h, _⟩
        · exact absurd h (by simp)
        · exact (show (⊤ : EReal) = f j from h) ▸ le_top)
      (fun j _ => Fin.zero_le _)
    rw [this]; rfl
  · obtain ⟨k, rfl⟩ := hl r h1
    have : least f = k := least_eq f k
      (fun j => by
        rcases h2 _ (List.mem_cons_of_mem _ (hall j)) with h | ⟨h, _⟩
        · exact le_of_lt h
        · exact le_of_eq h)
      (fun j hj => by
        rcases h2 _ (List.mem_cons_of_mem _ (hall j)) with h | ⟨_, h⟩
        · exact absurd h (not_lt.mpr hj)
        · simpa only [hn, Fin.le_def] using h)
    rw [this]

/-! Indicators. -/

/-- One where the condition holds, zero elsewhere. -/
noncomputable def unit (p : Prop) [Decidable p] : EReal := if p then 1 else 0

theorem ofNat_inj {a b : Fin 1024} : BitVec.ofNat 32 a.val = BitVec.ofNat 32 b.val ↔ a = b := by
  constructor
  · intro h
    have := congrArg BitVec.toNat h
    have ha := a.isLt; have hb := b.isLt
    simp at this; apply Fin.ext; omega
  · rintro rfl; rfl

/-- The bit of the equality of two index words. -/
theorem cmpi_eq (a b : Fin 1024) :
    IntOp.cmpi .eq (BitVec.ofNat 32 a.val) (BitVec.ofNat 32 b.val) = if a = b then 1#1 else 0#1 := by
  split
  · next h => exact StableHlo.Predicate.cmpi_eq_iff.mpr (by rw [h])
  · next h =>
    have := mt StableHlo.Predicate.cmpi_eq_iff.mp (mt ofNat_inj.mp h)
    revert this; generalize IntOp.cmpi _ _ _ = x; revert x; decide

/-- The equality of two index words, as an unsigned float. -/
theorem uitofp_eq (a b : Fin 1024) :
    (FloatOps.uitofp .f32 (IntOp.cmpi .eq (BitVec.ofNat 32 a.val) (BitVec.ofNat 32 b.val)) : Ideal .f32)
      = unit (a = b) := by
  rw [cmpi_eq, unit]
  show (((BitVec.toNat (if a = b then 1#1 else 0#1) : ℝ)) : EReal) = _
  split <;> simp

/-- The equality of two index words, widened, as a signed float. -/
theorem sitofp_eq (a b : Fin 1024) :
    (FloatOps.sitofp .f32 (BitVec.setWidth 32 (IntOp.cmpi .eq (BitVec.ofNat 32 a.val) (BitVec.ofNat 32 b.val)))
      : Ideal .f32) = unit (a = b) := by
  rw [cmpi_eq, unit]
  show (((BitVec.toInt (BitVec.setWidth 32 (if a = b then 1#1 else 0#1)) : ℝ)) : EReal) = _
  split <;> simp

/-- A sum weighted by the indicator of one index is the value there. -/
theorem sum_unit_mul (p : Fin 1024) (g : Fin 1024 → EReal) : ∑ x, unit (x = p) * g x = g p := by
  rw [Finset.sum_eq_single p]
  · simp [unit]
  · intro b _ hb; simp [unit, hb]
  · simp

/-! The quantizer. -/

/-- The squared distance of `x` from code `k`, spread out as both programs compute it. -/
noncomputable def sqdist (C : Fin 1024 → Fin 256 → EReal) (x : Fin 256 → EReal) (k : Fin 1024) : EReal :=
  ∑ d, x d * x d - ∑ d, Ideal.ofBits .f32 1073741824#32 * x d * C k d + ∑ d, C k d * C k d

/-- The nearest code, the first on a tie. -/
noncomputable def pick (C : Fin 1024 → Fin 256 → EReal) (x : Fin 256 → EReal) : Fin 1024 := least (sqdist C x)

/-- What the nearest code leaves of `x`. -/
noncomputable def next (C : Fin 1024 → Fin 256 → EReal) (x : Fin 256 → EReal) : Fin 256 → EReal :=
  fun d => x d - C (pick C x) d

/-- On reals the spread-out distance is the sum of the squared differences. -/
theorem sqdist_eq (C : Fin 1024 → Fin 256 → EReal) (x : Fin 256 → EReal) (k : Fin 1024)
    (hC : ∀ d, IsReal (C k d)) (hx : ∀ d, IsReal (x d)) :
    sqdist C x k = ∑ d, (x d - C k d) * (x d - C k d) := by
  choose c hc using hC
  choose y hy using hx
  unfold sqdist
  simp only [hc, hy, lit_two]
  norm_cast
  simp only [coe_sum]
  norm_cast
  rw [← Finset.sum_sub_distrib, ← Finset.sum_add_distrib]
  exact Finset.sum_congr rfl fun d _ => by ring

variable (K : Fin 3 → Fin 1024 → Fin 256 → EReal)

/-- What is left of `x` before stages 0, 1 and 2. -/
noncomputable def left (x : Fin 256 → EReal) : Fin 3 → Fin 256 → EReal :=
  ![x, next (K 0) x, next (K 1) (next (K 0) x)]

/-- The code stage `s` takes for `x`. -/
noncomputable def code (x : Fin 256 → EReal) (s : Fin 3) : Fin 1024 := pick (K s) (left K x s)

/-- The squared distance stage `s` leaves. -/
noncomputable def gap (x : Fin 256 → EReal) (s : Fin 3) : EReal := sqdist (K s) (left K x s) (code K x s)

/-- The sum of the three codes taken. -/
noncomputable def quant (x : Fin 256 → EReal) (d : Fin 256) : EReal :=
  0 + K 0 (code K x 0) d + K 1 (code K x 1) d + K 2 (code K x 2) d

/-- The three codes taken as the digits of one word. -/
noncomputable def digits (x : Fin 256 → EReal) : BitVec 32 :=
  IntOp.addi (IntOp.addi (IntOp.addi 0#32 (IntOp.muli (BitVec.ofNat 32 (code K x 0).val) 1#32))
    (IntOp.muli (BitVec.ofNat 32 (code K x 1).val) 1024#32)) (IntOp.muli (BitVec.ofNat 32 (code K x 2).val) 1048576#32)

/-- The frequency of code `k` among the choices of the 8192 rows. -/
noncomputable def freq (c : Fin 8192 → Fin 1024) (k : Fin 1024) : EReal :=
  (∑ n, unit (c n = k)) * Ideal.ofBits .f32 956301312#32

/-- The exponential of the entropy of the frequencies `p`. -/
noncomputable def spread (p : Fin 1024 → EReal) : EReal :=
  Ideal.exp (-∑ k, p k * Ideal.log (p k + Ideal.ofBits .f32 786163455#32))

/-- The perplexity: the mean of the three stages' spreads. -/
noncomputable def perp (Z : Fin 8192 → Fin 256 → EReal) : EReal :=
  Ideal.div (0 + spread (freq fun n => code K (Z n) 0) + spread (freq fun n => code K (Z n) 1)
    + spread (freq fun n => code K (Z n) 2)) (Ideal.ofBits .f32 1077936128#32)

/-- The loss: over the three stages, a quarter of the mean of the squares left. -/
noncomputable def loss (Z : Fin 8192 → Fin 256 → EReal) : EReal :=
  0 + Ideal.ofBits .f32 1048576000#32 * Ideal.div (∑ n, gap K (Z n) 0) (Ideal.ofBits .f32 1241513984#32)
    + Ideal.ofBits .f32 1048576000#32 * Ideal.div (∑ n, gap K (Z n) 1) (Ideal.ofBits .f32 1241513984#32)
    + Ideal.ofBits .f32 1048576000#32 * Ideal.div (∑ n, gap K (Z n) 2) (Ideal.ofBits .f32 1241513984#32)

variable {K}

theorem left_real (hK : ∀ s k d, IsReal (K s k d)) {x : Fin 256 → EReal} (hx : ∀ d, IsReal (x d)) (s : Fin 3)
    (d : Fin 256) : IsReal (left K x s d) := by
  have h1 : ∀ d, IsReal (next (K 0) x d) := fun d => (hx d).sub (hK _ _ _)
  match s with
  | 0 => exact hx d
  | 1 => exact h1 d
  | 2 => exact (h1 d).sub (hK _ _ _)

theorem quant_real (hK : ∀ s k d, IsReal (K s k d)) (x : Fin 256 → EReal) (d : Fin 256) : IsReal (quant K x d) :=
  ((IsReal.zero.add (hK _ _ _)).add (hK _ _ _)).add (hK _ _ _)

/-- The squared distance a stage leaves, as the sum of the squared differences. -/
theorem gap_eq (hK : ∀ s k d, IsReal (K s k d)) {x : Fin 256 → EReal} (hx : ∀ d, IsReal (x d)) (s : Fin 3) :
    gap K x s = ∑ d, (left K x s d - K s (code K x s) d) * (left K x s d - K s (code K x s) d) :=
  sqdist_eq _ _ _ (fun d => hK _ _ d) (left_real hK hx s)

theorem gap_real (hK : ∀ s k d, IsReal (K s k d)) {x : Fin 256 → EReal} (hx : ∀ d, IsReal (x d)) (s : Fin 3) :
    IsReal (gap K x s) := by
  choose y hy using left_real hK hx s
  choose c hc using hK s (code K x s)
  refine ⟨∑ d, (y d - c d) * (y d - c d), ?_⟩
  rw [gap_eq hK hx, ← coe_sum]
  refine Finset.sum_congr rfl fun d _ => ?_
  rw [hy, hc]; norm_cast

end Quant
-- ==== Proof.Finite.lean ====
module

public import proofs.«01_k».proof.Pre_finite
public import proofs.«01_k».proof.Proof.Spec
public import Idealize.ShloMosaic.Lib.ReduceAll

@[expose] public section

set_option maxRecDepth 16384

/-!
What the precondition says: every entry of both arguments is a real number.
-/

noncomputable section

namespace Cert.Pre_finite

open Idealize.ShloMosaic

/-- The shape facts the precondition's operations take. -/
theorem shapes : Facts where
  bcast_S_S8x1024x256 := by decide
  reducesTo_S8x1024x256_S_d0_1_2 := by decide
  h_S_ := by decide
  bcast_S_S3x1024x256 := by decide
  reducesTo_S3x1024x256_S_d0_1_2 := by decide

/-- A value whose magnitude is below infinity is a real number. -/
theorem real_of_mag (x : EReal) (h : FloatOps.cmpf (F := Ideal) (φ := .f32) .olt (max x (-x)) (Ideal.ofBits .f32 2139095040#32) = 1#1) :
    Quant.IsReal x := by
  rw [Quant.lit_top] at h
  have h1 : max x (-x) < ⊤ := by
    by_contra hn
    have h2 : Ideal.cmp .olt (max x (-x)) ⊤ = 1#1 := h
    rw [Ideal.cmp, decide_eq_false hn] at h2
    exact absurd h2 (by decide)
  induction x with
  | bot => simp at h1
  | top => simp at h1
  | coe r => exact ⟨r, rfl⟩

/-- Where the precondition holds every entry of both arguments is a real number. -/
theorem reals (z : FVec Ideal S8x1024x256 .f32) (B : FVec Ideal S3x1024x256 .f32)
    (h : @fn shapes Ideal _ z B = fun _ => 1#1) : (∀ i, Quant.IsReal (z i)) ∧ ∀ i, Quant.IsReal (B i) := by
  letI := shapes
  haveI : Subsingleton S_.Idx := ⟨fun a b => funext fun k => k.elim0⟩
  have e := IntOp.andi_eq_one.1 (congrFun h (fun k => k.elim0))
  exact ⟨fun i => real_of_mag _ (Host.reduce_andi_all _ _ _ _ _ e.1 i), fun i => real_of_mag _ (Host.reduce_andi_all _ _ _ _ _ e.2 i)⟩

end Cert.Pre_finite
-- ==== Proof.Tile.lean ====
module

public import proofs.«01_k».proof.Proof.Gen.KernelIdeal.Value

@[expose] public section

set_option maxRecDepth 16384

/-!
The kernel's stages on half a block as functions of arrays: the distances of 1024 rows to the codes, the least of a
row, its first index, the one-hot row, the lookup of the pieces, the sums and the counts; and each step the kernel
prints as one of these.
-/

noncomputable section

namespace Cert.KernelIdeal.Tile

open Cert.KernelIdeal Cert.KernelIdeal.Gen Idealize.ShloMosaic

variable {F : FTy → Type} [FloatOps F]

/-- The sums of the squares of the rows, as a column. -/
def sumSq (q : FVec F S1024x256 .f32) : FVec F S1024x1 .f32 :=
  shapeCast S1024x1 (multiReduction .add [1] S1024 q 0x00000000#32 reduces_S1024x256_S1024 (.inl rfl) rfl) shapeCasts_S1024_S1024x1

/-- The codes, off their leading axis. -/
def castC (C : Vec F S1x1024x256 .f32) : FVec F S1024x256 .f32 := shapeCast S1024x256 C shapeCasts_S1x1024x256_S1024x256

/-- The codes' squared norms, as a row. -/
def castN (n : Vec F S1x1024 .f32) : FVec F S1x1024 .f32 :=
  shapeCast S1x1024 (shapeCast S1024 n shapeCasts_S1x1024_S1024) shapeCasts_S1024_S1x1024

/-- The squared distance of every row to every code. -/
def dist (r : FVec F S1024x256 .f32) (C : Vec F S1x1024x256 .f32) (n : Vec F S1x1024 .f32) : FVec F S1024x1024 .f32 :=
  addf (subf (broadcastTo S1024x1024 (sumSq (mulf r r)) broadcasts_S1024x1_S1024x1024)
      (matmul dot_S1024x256_S1024x256_S1024x1024_1_1_0_0_n_n none
        (mulf (broadcast S1024x256 (Scalar.ofBits .f32 0x40000000#32)) r) (castC C) (constant S1024x1024 .f32 0x00000000#32)))
    (broadcastTo S1024x1024 (castN n) broadcasts_S1x1024_S1024x1024)

/-- The least of every row. -/
def low (d : FVec F S1024x1024 .f32) : FVec F S1024 .f32 :=
  multiReduction .minimumf [1] S1024 d 0x7F800000#32 reduces_S1024x1024_S1024 (.inl rfl) rfl

/-- A value for every row, as a column. -/
def column (m : FVec F S1024 .f32) : FVec F S1024x1 .f32 := shapeCast S1024x1 m shapeCasts_S1024_S1024x1

/-- Where a row holds its least value. -/
def mask (d : FVec F S1024x1024 .f32) : IVec S1024x1024 1 :=
  cmpf .oeq d (broadcastTo S1024x1024 (column (low d)) broadcasts_S1024x1_S1024x1024)

/-- The least of the lanes `v` a mask keeps. -/
def first (v : IVec S1024x1024 32) (m : IVec S1024x1024 1) : IVec S1024x1 32 :=
  shapeCast S1024x1 (multiReductionI .minsi [1] S1024 (select m v (broadcast S1024x1024 1024#32)) 2147483647#32
    reduces_S1024x1024_S1024 rfl) shapeCasts_S1024_S1024x1

/-- The one-hot rows of the given indices. -/
def hot (v : IVec S1024x1024 32) (i : IVec S1024x1 32) : FVec F S1024x1024 .bf16 :=
  truncf .bf16 (sitofp .f32 (extui 32 (cmpi .eq v (broadcastTo S1024x1024 i broadcasts_S1024x1_S1024x1024)) natLt_1_32))
    bitsLt_bf16_f32

/-- The product of one-hot rows with the three pieces of the codes. -/
def look (h : FVec F S1024x1024 .bf16) (P : Vec F S1x1024x768 .bf16) : FVec F S1024x768 .f32 :=
  matmul dot_S1024x1024_S1024x768_S1024x768_1_0_0_1_n_n none h (shapeCast S1024x768 P shapeCasts_S1x1024x768_S1024x768)
    (constant S1024x768 .f32 0x00000000#32)

/-- The sum of the three pieces. -/
def join (x : FVec F S1024x768 .f32) : FVec F S1024x256 .f32 :=
  addf (addf (extractStridedSlice S1024x256 ![0, 0] x slices_S1024x768_o0_0_S1024x256)
      (extractStridedSlice S1024x256 ![0, 256] x slices_S1024x768_o0_256_S1024x256))
    (extractStridedSlice S1024x256 ![0, 512] x slices_S1024x768_o0_512_S1024x256)

/-- The sum of a column. -/
def total (m : FVec F S1024x1 .f32) : F .f32 :=
  extractAt ![0, 0, 0] (shapeCast S1x1x1 (multiReduction .add [1, 2] S1 (shapeCast S1x1024x1 m shapeCasts_S1024x1_S1x1024x1)
    0x00000000#32 reduces_S1x1024x1_S1 (.inl rfl) rfl) shapeCasts_S1_S1x1x1) inpos_S1x1x1_p0_0_0

/-- The sums of the columns of one-hot rows. -/
def count (h : FVec F S1024x1024 .bf16) : FVec F S1024 .f32 :=
  shapeCast S1024 (extractStridedSlice S1x1024 ![0, 0] (matmul dot_S8x1024_S1024x1024_S8x1024_1_0_0_1_n_n none
      (broadcast S8x1024 (Scalar.ofBits .bf16 0x3F80#16)) h (constant S8x1024 .f32 0x00000000#32)) slices_S8x1024_o0_0_S1x1024)
    shapeCasts_S1x1024_S1024

/-- The counts with those of two halves added. -/
def tally (h h' : FVec F S1024x1024 .bf16) (old : Vec F S1x1024 .f32) : FVec F S1x1024 .f32 :=
  shapeCast S1x1024 (addf (addf (shapeCast S1024 old shapeCasts_S1x1024_S1024) (count h)) (count h')) shapeCasts_S1024_S1x1024

/-- The digits with one more. -/
def digit (c i : IVec S1024x1 32) (w : BitVec 32) : IVec S1024x1 32 := addi c (muli i (broadcast S1024x1 w))

/-- The digits with a leading axis. -/
def lift (c : IVec S1024x1 32) : IVec S1x1024x1 32 := shapeCast S1x1024x1 c shapeCasts_S1024x1_S1x1024x1

/-- A sum with that of two columns added. -/
def gather (a : F .f32) (m m' : FVec F S1024x1 .f32) : F .f32 :=
  Scalar.addf a (Scalar.addf (Scalar.addf (Scalar.ofBits .f32 0x00000000#32) (total m)) (total m'))

/-- The squared norms of the codes. -/
def norms (C : FVec F S1024x256 .f32) : FVec F S1x1024 .f32 :=
  shapeCast S1x1024 (multiReduction .add [1] S1024 (mulf C C) 0x00000000#32 reduces_S1024x256_S1024 (.inl rfl) rfl) shapeCasts_S1024_S1x1024

/-- A value through the narrow format. -/
def round (C : FVec F S1024x256 .f32) : FVec F S1024x256 .f32 := extf .f32 (truncf .bf16 C)

/-- A piece of the codes, as stored. -/
def piece (C : FVec F S1024x256 .f32) : FVec F S1x1024x256 .bf16 :=
  shapeCast S1x1024x256 (truncf .bf16 C bitsLt_bf16_f32) shapeCasts_S1024x256_S1x1024x256

/-- The first half of the rows of a block. -/
def upper (x : Vec F S2048x256 .f32) : FVec F S1024x256 .f32 :=
  extractStridedSlice S1024x256 ![0, 0] (shapeCast S2048x256 x shapeCasts_S2048x256_S2048x256) slices_S2048x256_o0_0_S1024x256

/-- The second half of the rows of a block. -/
def lower (x : Vec F S2048x256 .f32) : FVec F S1024x256 .f32 :=
  extractStridedSlice S1024x256 ![1024, 0] (shapeCast S2048x256 x shapeCasts_S2048x256_S2048x256) slices_S2048x256_o1024_0_S1024x256

/-- Zero rows. -/
def nought : FVec F S1024x256 .f32 := broadcast S1024x256 (Scalar.ofBits .f32 0x00000000#32)

/-- Zero digits. -/
def noughtI : IVec S1024x1 32 := broadcast S1024x1 0#32

/-! Each step the kernel prints. -/

section Steps

variable (v5 : IVec S1024x1024 32) (x : Vec F S2048x256 .f32) (C : Vec F S1x1024x256 .f32) (n old : Vec F S1x1024 .f32)
variable (r r' q : FVec F S1024x256 .f32) (d : FVec F S1024x1024 .f32) (m m' : FVec F S1024x1 .f32) (l : FVec F S1024 .f32)
variable (i c : IVec S1024x1 32) (h h' : FVec F S1024x1024 .bf16) (P : Vec F S1x1024x768 .bf16) (y : FVec F S1024x768 .f32)
variable (a : F .f32) (k : IVec S1024x1024 1) (w : BitVec 32)

theorem step29 : k0_pay29 x = upper x := rfl
theorem step30 : k0_pay30 x = lower x := rfl
theorem step31 : k0_pay31 (F := F) = nought := rfl
theorem step32 : k0_pay32 (F := F) = nought := rfl
theorem step33 : k0_pay33 = noughtI := rfl
theorem step34 : k0_pay34 = noughtI := rfl
theorem step37 : k0_pay37 x C n = dist (upper x) C n := rfl
theorem step38 : k0_pay38 x C n = dist (lower x) C n := rfl
theorem step39 : k0_pay39 x C n = low (dist (upper x) C n) := rfl
theorem step40 : k0_pay40 l = column l := rfl
theorem step41 : k0_pay41 d = column (low d) := rfl
theorem step42 : k0_pay42 v5 d (low d) = first v5 (mask d) := rfl
theorem step43 : k0_pay43 v5 d = first v5 (mask d) := rfl
theorem step44 : k0_pay44 v5 d (low d) = hot v5 (first v5 (mask d)) := rfl
theorem step45 : k0_pay45 v5 d = hot v5 (first v5 (mask d)) := rfl
theorem step46 : k0_pay46 v5 d (low d) P = join (look (hot v5 (first v5 (mask d))) P) := rfl
theorem step47 : k0_pay47 v5 d P = join (look (hot v5 (first v5 (mask d))) P) := rfl
theorem step48 : k0_pay48 l = total (column l) := rfl
theorem step49 : k0_pay49 m a (Scalar.ofBits .f32 0x00000000#32) = Scalar.addf (Scalar.ofBits .f32 0x00000000#32) (Scalar.addf (Scalar.addf (Scalar.ofBits .f32 0x00000000#32) a) (total m)) := rfl
theorem step50 : k0_pay50 q r = addf q r := rfl
theorem step51 : k0_pay51 q r = addf q r := rfl
theorem step52 : k0_pay52 r q = subf r q := rfl
theorem step53 : k0_pay53 r q = subf r q := rfl
theorem step54 : k0_pay54 c i = digit c i 1#32 := rfl
theorem step55 : k0_pay55 c i = digit c i 1#32 := rfl
theorem step56 : k0_pay56 h h' old = tally h h' old := rfl
theorem step57 : k0_pay57 C = castC C := rfl
theorem step58 : k0_pay58 n = castN n := rfl
theorem step59 : k0_pay59 r q = sumSq (mulf (subf r q) (subf r q)) := rfl
theorem step60 : k0_pay60 r q = mulf (subf r q) (subf r q) := rfl
theorem step61 : k0_pay61 r (castC C) (castN n) (sumSq (mulf r r)) = dist r C n := rfl
theorem step62 : k0_pay62 r (castC C) (castN n) (mulf r r) = dist r C n := rfl
theorem step63 : k0_pay63 r (castC C) (castN n) (sumSq (mulf r r)) = column (low (dist r C n)) := rfl
theorem step64 : k0_pay64 r (castC C) (castN n) (mulf r r) = column (low (dist r C n)) := rfl
theorem step65 : k0_pay65 v5 r (castC C) (castN n) (sumSq (mulf r r)) = first v5 (mask (dist r C n)) := rfl
theorem step66 : k0_pay66 v5 r (castC C) (castN n) (mulf r r) = first v5 (mask (dist r C n)) := rfl
theorem step67 : k0_pay67 v5 r (castC C) (castN n) (sumSq (mulf r r)) = hot v5 (first v5 (mask (dist r C n))) := rfl
theorem step68 : k0_pay68 v5 r (castC C) (castN n) (mulf r r) = hot v5 (first v5 (mask (dist r C n))) := rfl
theorem step69 : k0_pay69 v5 r (castC C) (castN n) (sumSq (mulf r r)) P = look (hot v5 (first v5 (mask (dist r C n)))) P := rfl
theorem step70 : k0_pay70 y = join y := rfl
theorem step71 : k0_pay71 h P = join (look h P) := rfl
theorem step72 : k0_pay72 a m m' = gather a m m' := rfl
theorem step73 : k0_pay73 q y = addf q (join y) := rfl
theorem step74 : k0_pay74 q h P = addf q (join (look h P)) := rfl
theorem step75 : k0_pay75 r y = subf r (join y) := rfl
theorem step76 : k0_pay76 r h P = subf r (join (look h P)) := rfl
theorem step77 : k0_pay77 c i = digit c i 1024#32 := rfl
theorem step78 : k0_pay78 c i = digit c i 1024#32 := rfl
theorem step81 : k0_pay81 (k0_pay79 h old) (k0_pay80 h') = tally h h' old := rfl
theorem step82 : k0_pay82 C = castC C := rfl
theorem step83 : k0_pay83 n = castN n := rfl
theorem step84 : k0_pay84 r C n = dist r C n := rfl
theorem step85 : k0_pay85 r C n = dist r C n := rfl
theorem step86 : k0_pay86 r C n = column (low (dist r C n)) := rfl
theorem step87 : k0_pay87 r C n = column (low (dist r C n)) := rfl
theorem step88 : k0_pay88 v5 r C n = first v5 (mask (dist r C n)) := rfl
theorem step89 : k0_pay89 r C n = mask (dist r C n) := rfl
theorem step90 : k0_pay90 v5 k 1024#32 = first v5 k := rfl
theorem step91 : k0_pay91 (F := F) v5 i = hot v5 i := rfl
theorem step92 : k0_pay92 (F := F) v5 k 1024#32 = hot v5 (first v5 k) := rfl
theorem step93 : k0_pay93 a m m' = gather a m m' := rfl
theorem step94 : k0_pay94 v5 q i P = addf q (join (look (hot v5 i) P)) := rfl
theorem step95 : k0_pay95 v5 q k 1024#32 P = addf q (join (look (hot v5 (first v5 k)) P)) := rfl
theorem step96 : k0_pay96 c i = digit c i 1048576#32 := rfl
theorem step97 : k0_pay97 h h' old = tally h h' old := rfl
theorem step98 : k0_pay98 c = lift c := rfl
theorem step99 : k0_pay99 c i w = lift (digit c i w) := rfl
theorem step4 : k0_pay4 C = castC C := rfl
theorem step5 : k0_pay5 C = norms (castC C) := rfl
theorem step12 : k0_pay12 C = castC C := rfl
theorem step13 : k0_pay13 C = norms (castC C) := rfl
theorem step20 : k0_pay20 C = castC C := rfl
theorem step21 : k0_pay21 C = norms (castC C) := rfl
theorem step9 : k0_pay9 C = piece (round (castC C)) := rfl
theorem step10 : k0_pay10 C = piece (round (subf (castC C) (round (castC C)))) := rfl
theorem step11 : k0_pay11 C = piece (subf (subf (castC C) (round (castC C))) (round (subf (castC C) (round (castC C))))) := rfl
theorem step17 : k0_pay17 C = piece (round (castC C)) := rfl
theorem step18 : k0_pay18 C = piece (round (subf (castC C) (round (castC C)))) := rfl
theorem step19 : k0_pay19 C = piece (subf (subf (castC C) (round (castC C))) (round (subf (castC C) (round (castC C))))) := rfl
theorem step25 : k0_pay25 r = piece (round r) := rfl
theorem step26 : k0_pay26 r = piece (round (subf r (round r))) := rfl
theorem step27 : k0_pay27 r = piece (subf (subf r (round r)) (round (subf r (round r)))) := rfl

end Steps

end Cert.KernelIdeal.Tile
-- ==== Proof.TileValue.lean ====
module

public import proofs.«01_k».proof.Proof.Tile
public import proofs.«01_k».proof.Proof.Spec
public import Idealize.ShloMosaic.Lib.Pointwise

@[expose] public section

set_option maxRecDepth 16384

/-! The kernel's stages on half a block, entry by entry, in the mathematics of the quantizer. -/

noncomputable section

namespace Cert.KernelIdeal.Tile

open Cert.KernelIdeal Cert.KernelIdeal.Gen Idealize.ShloMosaic

/-- The lane numbers. -/
abbrev lanes : IVec S1024x1024 32 := iota .tc S1024x1024 32 [1] iota_S1024x1024_d1_w32

theorem lanes_apply (i k : Fin 1024) : lanes (ix2 i k) = BitVec.ofNat 32 k.val := by
  pointwise [lanes]

/-- The distances of a row to the codes. -/
theorem dist_apply (r : FVec Ideal S1024x256 .f32) (C : Vec Ideal S1x1024x256 .f32) (n : Vec Ideal S1x1024 .f32)
    (X : Fin 256 → EReal) (K : Fin 1024 → Fin 256 → EReal) (i : Fin 1024) (hr : ∀ d, r (ix2 i d) = X d)
    (hC : ∀ k d, C (ix3 0 k d) = K k d) (hn : ∀ k, n (ix2 0 k) = ∑ d, K k d * K k d) (k : Fin 1024) :
    dist r C n (ix2 i k) = Quant.sqdist K X k := by
  pointwise [dist, sumSq, castC, castN]
  simp only [hr, hC, hn, Quant.sqdist]

/-- The least of a row. -/
theorem low_apply (d : FVec Ideal S1024x1024 .f32) (f : Fin 1024 → EReal) (i : Fin 1024) (hd : ∀ k, d (ix2 i k) = f k) :
    low d (ix1 i) = f (Quant.least f) := by
  pointwise [low]
  simp only [hd]
  exact Quant.fold_min f

theorem column_apply (m : FVec Ideal S1024 .f32) (i : Fin 1024) : column m (ix2 i 0) = m (ix1 i) := by
  pointwise [column]

/-- The index kept is the first at which the row is least. -/
theorem first_apply (d : FVec Ideal S1024x1024 .f32) (f : Fin 1024 → EReal) (i : Fin 1024) (hd : ∀ k, d (ix2 i k) = f k) :
    first lanes (mask d) (ix2 i 0) = BitVec.ofNat 32 (Quant.least f).val := by
  have hl := low_apply d f i hd
  have hv := lanes_apply i
  unfold mask
  generalize low d = l at hl
  generalize lanes = v at hv
  pointwise [first, column]
  simp only [hd, hl, hv]
  refine Quant.fold_lane f _ fun k => ?_
  rfl

/-- The one-hot row of an index. -/
theorem hot_apply (c : IVec S1024x1 32) (p : Fin 1024) (i : Fin 1024) (hc : c (ix2 i 0) = BitVec.ofNat 32 p.val)
    (k : Fin 1024) : hot (F := Ideal) lanes c (ix2 i k) = Quant.unit (k = p) := by
  have hv := lanes_apply i
  generalize lanes = v at hv
  pointwise [hot]
  rw [hv, hc]
  exact Quant.sitofp_eq k p

/-- The code the one-hot row of `p` finds among the pieces: code `p`. -/
theorem look_apply (h : FVec Ideal S1024x1024 .bf16) (P : Vec Ideal S1x1024x768 .bf16) (K : Fin 1024 → Fin 256 → EReal)
    (p : Fin 1024) (i : Fin 1024) (hh : ∀ k, h (ix2 i k) = Quant.unit (k = p))
    (hP : ∀ k (j : Fin 768), P (ix3 0 k j) = if hj : j.val < 256 then K k ⟨j.val, hj⟩ else 0) (d : Fin 256) :
    join (look h P) (ix2 i d) = K p d := by
  pointwise [join, look]
  simp only [hh, hP, Quant.sum_unit_mul]
  rw [dif_pos d.isLt, dif_neg (by simp), dif_neg (by simp; omega), add_zero, add_zero]

/-- The sum of a column. -/
theorem total_apply (m : FVec Ideal S1024x1 .f32) (g : Fin 1024 → EReal) (hm : ∀ i, m (ix2 i 0) = g i) :
    total m = ∑ i, g i := by
  have : ∀ x, x = total m → x = ∑ i, g i := by
    intro x hx
    pointwise [total] at hx
    simp only [hm] at hx
    simpa using hx
  exact this _ rfl

/-- The counts with those of two halves added. -/
theorem tally_apply (h h' : FVec Ideal S1024x1024 .bf16) (old : Vec Ideal S1x1024 .f32) (p p' : Fin 1024 → Fin 1024)
    (hh : ∀ i k, h (ix2 i k) = Quant.unit (k = p i)) (hh' : ∀ i k, h' (ix2 i k) = Quant.unit (k = p' i)) (k : Fin 1024) :
    tally h h' old (ix2 0 k) = old (ix2 0 k) + ∑ i, Quant.unit (p i = k) + ∑ i, Quant.unit (p' i = k) := by
  have e : ∀ a b : Fin 1024, Quant.unit (a = b) = Quant.unit (b = a) := fun a b => by
    unfold Quant.unit; simp only [eq_comm]
  pointwise [tally, count]
  simp only [hh, hh', Quant.lit_one, EReal.coe_one, one_mul, e k]

theorem digit_apply (c j : IVec S1024x1 32) (w : BitVec 32) (i : Fin 1024) :
    digit c j w (ix2 i 0) = IntOp.addi (c (ix2 i 0)) (IntOp.muli (j (ix2 i 0)) w) := by
  pointwise [digit]

theorem lift_apply (c : IVec S1024x1 32) (i : Fin 1024) : lift c (ix3 0 i 0) = c (ix2 i 0) := by
  pointwise [lift]

theorem upper_apply (x : Vec Ideal S2048x256 .f32) (i : Fin 1024) (d : Fin 256) :
    upper x (ix2 i d) = x (ix2 ⟨i.val, by omega⟩ d) := by
  pointwise [upper]

theorem lower_apply (x : Vec Ideal S2048x256 .f32) (i : Fin 1024) (d : Fin 256) :
    lower x (ix2 i d) = x (ix2 ⟨1024 + i.val, by omega⟩ d) := by
  pointwise [lower]

/-- The squared norms of the codes. -/
theorem norms_apply (C : Vec Ideal S1x1024x256 .f32) (k : Fin 1024) :
    norms (castC C) (ix2 0 k) = ∑ d, C (ix3 0 k d) * C (ix3 0 k d) := by
  pointwise [norms, castC]

/-- The first piece is the codes. -/
theorem piece0_apply (C : Vec Ideal S1x1024x256 .f32) (k : Fin 1024) (d : Fin 256) :
    piece (round (castC C)) (ix3 0 k d) = C (ix3 0 k d) := by
  pointwise [piece, round, castC]

/-- The second piece of finite codes is zero. -/
theorem piece1_apply (C : Vec Ideal S1x1024x256 .f32) (hC : ∀ i, Quant.IsReal (C i)) (k : Fin 1024) (d : Fin 256) :
    piece (round (subf (castC C) (round (castC C)))) (ix3 0 k d) = 0 := by
  pointwise [piece, round, castC]
  obtain ⟨x, hx⟩ := hC (ix3 0 k d)
  rw [hx]; norm_cast; simp

/-- The third piece of finite codes is zero. -/
theorem piece2_apply (C : Vec Ideal S1x1024x256 .f32) (hC : ∀ i, Quant.IsReal (C i)) (k : Fin 1024) (d : Fin 256) :
    piece (subf (subf (castC C) (round (castC C))) (round (subf (castC C) (round (castC C))))) (ix3 0 k d) = 0 := by
  pointwise [piece, round, castC]
  obtain ⟨x, hx⟩ := hC (ix3 0 k d)
  rw [hx]; norm_cast; simp

/-- What half a block needs to know of one stage's codebook: the codes, their squared norms and their pieces. -/
structure Book (C : Vec Ideal S1x1024x256 .f32) (n : Vec Ideal S1x1024 .f32) (P : Vec Ideal S1x1024x768 .bf16)
    (K : Fin 1024 → Fin 256 → EReal) : Prop where
  codes : ∀ k d, C (ix3 0 k d) = K k d
  norms : ∀ k, n (ix2 0 k) = ∑ d, K k d * K k d
  pieces : ∀ k (j : Fin 768), P (ix3 0 k j) = if hj : j.val < 256 then K k ⟨j.val, hj⟩ else 0

section Stage

variable {C : Vec Ideal S1x1024x256 .f32} {n : Vec Ideal S1x1024 .f32} {P : Vec Ideal S1x1024x768 .bf16}
variable {K : Fin 1024 → Fin 256 → EReal} (b : Book C n P K) {r : FVec Ideal S1024x256 .f32} {X : Fin 1024 → Fin 256 → EReal}
variable (hr : ∀ i d, r (ix2 i d) = X i d)
include b hr

/-- The index a row takes is its nearest code. -/
theorem stage_first (i : Fin 1024) :
    first lanes (mask (dist r C n)) (ix2 i 0) = BitVec.ofNat 32 (Quant.pick K (X i)).val :=
  first_apply _ _ i (dist_apply r C n (X i) K i (hr i) b.codes b.norms)

/-- The one-hot row is that of the nearest code. -/
theorem stage_hot (i k : Fin 1024) :
    hot (F := Ideal) lanes (first lanes (mask (dist r C n))) (ix2 i k) = Quant.unit (k = Quant.pick K (X i)) :=
  hot_apply _ _ i (stage_first b hr i) k

/-- The code found is the nearest. -/
theorem stage_look (i : Fin 1024) (d : Fin 256) :
    join (look (hot lanes (first lanes (mask (dist r C n)))) P) (ix2 i d) = K (Quant.pick K (X i)) d :=
  look_apply _ P K _ i (stage_hot b hr i) b.pieces d

/-- What is left of a row. -/
theorem stage_next (i : Fin 1024) (d : Fin 256) :
    subf r (join (look (hot lanes (first lanes (mask (dist r C n)))) P)) (ix2 i d) = Quant.next K (X i) d :=
  congrArg₂ (· - ·) (hr i d) (stage_look b hr i d)

/-- The sum of the least distances. -/
theorem stage_total :
    total (column (low (dist r C n))) = ∑ i, Quant.sqdist K (X i) (Quant.pick K (X i)) :=
  total_apply _ _ fun i => (column_apply _ i).trans
    (low_apply _ _ i (dist_apply r C n (X i) K i (hr i) b.codes b.norms))

end Stage

end Cert.KernelIdeal.Tile
-- ==== Proof.Half.lean ====
module

public import proofs.«01_k».proof.Proof.TileValue

@[expose] public section

set_option maxRecDepth 16384

/-! What the three stages make of half a block: the sum of the codes taken, the digits, the squared distances left and
the counts. -/

noncomputable section

namespace Cert.KernelIdeal.Tile

open Cert.KernelIdeal Cert.KernelIdeal.Gen Idealize.ShloMosaic

/-- The index each row takes. -/
abbrev taken (r : FVec Ideal S1024x256 .f32) (C : Vec Ideal S1x1024x256 .f32) (n : Vec Ideal S1x1024 .f32) :
    IVec S1024x1 32 := first lanes (mask (dist r C n))

/-- The code each row takes. -/
abbrev found (r : FVec Ideal S1024x256 .f32) (C : Vec Ideal S1x1024x256 .f32) (n : Vec Ideal S1x1024 .f32)
    (P : Vec Ideal S1x1024x768 .bf16) : FVec Ideal S1024x256 .f32 := join (look (hot lanes (taken r C n)) P)

/-- What is left of each row. -/
abbrev rest (r : FVec Ideal S1024x256 .f32) (C : Vec Ideal S1x1024x256 .f32) (n : Vec Ideal S1x1024 .f32)
    (P : Vec Ideal S1x1024x768 .bf16) : FVec Ideal S1024x256 .f32 := subf r (found r C n P)

section Half

variable {C0 C1 C2 : Vec Ideal S1x1024x256 .f32} {n0 n1 n2 : Vec Ideal S1x1024 .f32} {P0 P1 P2 : Vec Ideal S1x1024x768 .bf16}
variable {K : Fin 3 → Fin 1024 → Fin 256 → EReal} {r : FVec Ideal S1024x256 .f32} {X : Fin 1024 → Fin 256 → EReal}
variable (b0 : Book C0 n0 P0 (K 0)) (b1 : Book C1 n1 P1 (K 1)) (b2 : Book C2 n2 P2 (K 2))
variable (hr : ∀ i d, r (ix2 i d) = X i d)

include b0 hr in
theorem left1 (i : Fin 1024) (d : Fin 256) : rest r C0 n0 P0 (ix2 i d) = Quant.left K (X i) 1 d :=
  stage_next b0 hr i d

include b0 b1 hr in
theorem left2 (i : Fin 1024) (d : Fin 256) :
    rest (rest r C0 n0 P0) C1 n1 P1 (ix2 i d) = Quant.left K (X i) 2 d :=
  stage_next b1 (left1 b0 hr) i d

include b0 b1 b2 hr in
/-- The sum of the three codes taken. -/
theorem half_quant (i : Fin 1024) (d : Fin 256) :
    addf (addf (addf nought (found r C0 n0 P0)) (found (rest r C0 n0 P0) C1 n1 P1))
      (found (rest (rest r C0 n0 P0) C1 n1 P1) C2 n2 P2) (ix2 i d) = Quant.quant K (X i) d := by
  have e0 := stage_look b0 hr i d
  have e1 := stage_look b1 (left1 b0 hr) i d
  have e2 := stage_look b2 (left2 b0 b1 hr) i d
  have ez : nought (F := Ideal) (ix2 i d) = 0 := by pointwise [nought]
  exact congrArg₂ (· + ·) (congrArg₂ (· + ·) (congrArg₂ (· + ·) ez e0) e1) e2

include b0 b1 b2 hr in
/-- The three codes taken, as digits. -/
theorem half_digits (i : Fin 1024) :
    lift (digit (digit (digit noughtI (taken r C0 n0) 1#32) (taken (rest r C0 n0 P0) C1 n1) 1024#32)
      (taken (rest (rest r C0 n0 P0) C1 n1 P1) C2 n2) 1048576#32) (ix3 0 i 0) = Quant.digits K (X i) := by
  have ez : noughtI (ix2 i 0) = 0#32 := by pointwise [noughtI]
  have e0 : taken r C0 n0 (ix2 i 0) = _ := stage_first b0 hr i
  have e1 : taken (rest r C0 n0 P0) C1 n1 (ix2 i 0) = _ := stage_first b1 (left1 b0 hr) i
  have e2 : taken (rest (rest r C0 n0 P0) C1 n1 P1) C2 n2 (ix2 i 0) = _ := stage_first b2 (left2 b0 b1 hr) i
  rw [lift_apply, digit_apply, digit_apply, digit_apply, ez, e0, e1, e2]
  rfl

variable {r' : FVec Ideal S1024x256 .f32} {X' : Fin 1024 → Fin 256 → EReal} (hr' : ∀ i d, r' (ix2 i d) = X' i d)

include b0 b1 b2 hr hr' in
/-- The squared distances left, summed over both halves and the three stages. -/
theorem half_gap :
    gather (gather (Scalar.addf (Scalar.ofBits .f32 0x00000000#32)
          (Scalar.addf (Scalar.addf (Scalar.ofBits .f32 0x00000000#32) (total (column (low (dist r C0 n0)))))
            (total (column (low (dist r' C0 n0))))))
        (column (low (dist (rest r C0 n0 P0) C1 n1))) (column (low (dist (rest r' C0 n0 P0) C1 n1))))
      (column (low (dist (rest (rest r C0 n0 P0) C1 n1 P1) C2 n2)))
      (column (low (dist (rest (rest r' C0 n0 P0) C1 n1 P1) C2 n2)))
      = ((∑ i, Quant.gap K (X i) 0) + ∑ i, Quant.gap K (X' i) 0)
        + ((∑ i, Quant.gap K (X i) 1) + ∑ i, Quant.gap K (X' i) 1)
        + ((∑ i, Quant.gap K (X i) 2) + ∑ i, Quant.gap K (X' i) 2) := by
  have ez : (Scalar.ofBits .f32 0x00000000#32 : Ideal .f32) = 0 := by pointwise []
  have ha : ∀ a b : Ideal .f32, Scalar.addf a b = ((a : EReal) + b : EReal) := fun _ _ => rfl
  unfold gather
  rw [ez, stage_total b0 hr, stage_total b0 hr', stage_total b1 (left1 b0 hr), stage_total b1 (left1 b0 hr'),
    stage_total b2 (left2 b0 b1 hr), stage_total b2 (left2 b0 b1 hr')]
  simp only [ha, zero_add]
  rfl

include b0 hr hr' in
theorem half_count0 (old : Vec Ideal S1x1024 .f32) (k : Fin 1024) :
    tally (hot lanes (taken r C0 n0)) (hot lanes (taken r' C0 n0)) old (ix2 0 k)
      = old (ix2 0 k) + ∑ i, Quant.unit (Quant.code K (X i) 0 = k) + ∑ i, Quant.unit (Quant.code K (X' i) 0 = k) :=
  tally_apply _ _ old _ _ (stage_hot b0 hr) (stage_hot b0 hr') k

include b0 b1 hr hr' in
theorem half_count1 (old : Vec Ideal S1x1024 .f32) (k : Fin 1024) :
    tally (hot lanes (taken (rest r C0 n0 P0) C1 n1)) (hot lanes (taken (rest r' C0 n0 P0) C1 n1)) old (ix2 0 k)
      = old (ix2 0 k) + ∑ i, Quant.unit (Quant.code K (X i) 1 = k) + ∑ i, Quant.unit (Quant.code K (X' i) 1 = k) :=
  tally_apply _ _ old _ _ (stage_hot b1 (left1 b0 hr)) (stage_hot b1 (left1 b0 hr')) k

include b0 b1 b2 hr hr' in
theorem half_count2 (old : Vec Ideal S1x1024 .f32) (k : Fin 1024) :
    tally (hot lanes (taken (rest (rest r C0 n0 P0) C1 n1 P1) C2 n2))
        (hot lanes (taken (rest (rest r' C0 n0 P0) C1 n1 P1) C2 n2)) old (ix2 0 k)
      = old (ix2 0 k) + ∑ i, Quant.unit (Quant.code K (X i) 2 = k) + ∑ i, Quant.unit (Quant.code K (X' i) 2 = k) :=
  tally_apply _ _ old _ _ (stage_hot b2 (left2 b0 b1 hr)) (stage_hot b2 (left2 b0 b1 hr')) k

end Half

/-- The loss with a block's share added. -/
theorem share_apply (a : Ideal .f32) (old : Vec Ideal S1x1 .f32) :
    k0_pay100 a old (ix2 0 0) = old (ix2 0 0) + a * Ideal.ofBits .f32 872415232#32 := by
  pointwise [k0_pay100]

theorem zero_loss : k0_pay2 (F := Ideal) (ix2 0 0) = 0 := by pointwise [k0_pay2]

theorem zero_counts (s : Fin 3) (k : Fin 1024) : k0_pay3 (F := Ideal) (ix2 s k) = 0 := by pointwise [k0_pay3]

/-- The perplexity of the counts. -/
theorem perp_apply (v : Vec Ideal S3x1024 .f32) (f : Fin 3 → Fin 1024 → EReal) (hv : ∀ s k, v (ix2 s k) = f s k) :
    k0_pay1 v (ix2 0 0)
      = Ideal.div (0 + Quant.spread (fun k => f 0 k * Ideal.ofBits .f32 956301312#32)
          + Quant.spread (fun k => f 1 k * Ideal.ofBits .f32 956301312#32)
          + Quant.spread (fun k => f 2 k * Ideal.ofBits .f32 956301312#32)) (Ideal.ofBits .f32 1077936128#32) := by
  pointwise [k0_pay1]
  simp only [hv, Quant.spread]
  simp [Fin.sum_univ_three]

/-- A sum over a block's rows is that over its two halves. -/
theorem sum_halves (g : Fin 2048 → EReal) :
    (∑ i : Fin 1024, g ⟨i.val, by omega⟩) + ∑ i : Fin 1024, g ⟨1024 + i.val, by omega⟩ = ∑ i, g i :=
  (Fin.sum_univ_add (a := 1024) (b := 1024) g).symm

end Cert.KernelIdeal.Tile
-- ==== Proof.Point.lean ====
module

public import proofs.«01_k».proof.Proof.Half
public import Idealize.ShloMosaic.Lib.Pipeline.ValueKit
public import Idealize.ShloMosaic.Lib.Pipeline.ReadBack

@[expose] public section

set_option maxRecDepth 16384

/-!
One point of the grid: what its outputs and the arrays it carries hold, at the first point, where the tallies are
cleared and the split codes are stored, and at the later ones, where both are read back.
-/

noncomputable section

namespace Cert.KernelIdeal.Point

open Cert.KernelIdeal Cert.KernelIdeal.Gen Cert.KernelIdeal.Tile Idealize.ShloMosaic Idealize.ShloMosaic.TcCoe Idealize.SL.Sem

variable (m : (ℓ : Loc nD τ sig) → Buf (Elt Ideal) ℓ)

/-- Row block `s` of an array loaded, read at an entry. -/
theorem ld3 {w : ℕ} {φ : EltTy} (X : Vec Ideal ⟨3, ![3, 1024, w]⟩ φ) (s : Fin 3)
    (h : ∀ a, (![s.val, 0, 0] : Fin 3 → ℕ) a + (![1, 1024, w] : Fin 3 → ℕ) a ≤ (⟨3, ![3, 1024, w]⟩ : Shape).size a)
    (k : Fin 1024) (d : Fin w) :
    View.ld (Val := Elt Ideal) (S := ⟨3, ![3, 1024, w]⟩) (e' := φ) X
      (Rect.unit (s := ⟨3, ![3, 1024, w]⟩) ![s.val, 0, 0] ![1, 1024, w] h) (ix3 0 k d) = X (ix3 s k d) :=
  View.ld_unit_apply_of X _ _ h _ _ (by intro a; fin_cases a <;> simp)

/-- Row `s` of an array loaded, read at an entry. -/
theorem ld2 {φ : EltTy} (X : Vec Ideal S3x1024 φ) (s : Fin 3)
    (h : ∀ a, (![s.val, 0] : Fin 2 → ℕ) a + (![1, 1024] : Fin 2 → ℕ) a ≤ S3x1024.size a) (k : Fin 1024)  :
    View.ld (Val := Elt Ideal) (S := S3x1024) (e' := φ) X (Rect.unit (s := S3x1024) ![s.val, 0] ![1, 1024] h) (ix2 0 k)
      = X (ix2 s k) :=
  View.ld_unit_apply_of X _ _ h _ _ (by intro a; fin_cases a <;> simp)

/-- What the outputs and the carried arrays hold after a point. -/
abbrev St : Type := Vec Ideal S2048x256 .f32 × Vec Ideal S1x2048x1 .i32 × Vec Ideal S1x1 .f32 × Vec Ideal S1x1 .f32
  × Vec Ideal S3x1024 .f32 × Vec Ideal S3x1024x768 .bf16 × Vec Ideal S3x1024 .f32

/-- The carried norms and pieces are those of the codes `K`. -/
structure Carried (K : Fin 3 → Fin 1024 → Fin 256 → EReal) (S : St) : Prop where
  norms : ∀ s k, S.2.2.2.2.2.2 (ix2 s k) = ∑ d, K s k d * K s k d
  pieces : ∀ s k (j : Fin 768), S.2.2.2.2.2.1 (ix3 s k j) = if hj : j.val < 256 then K s k ⟨j.val, hj⟩ else 0

/-- A stage's codebook, loaded from arrays that hold all three. -/
theorem book_ld {K : Fin 3 → Fin 1024 → Fin 256 → EReal} {S : St} (hS : Carried K S) (B : Vec Ideal S3x1024x256 .f32)
    (hB : ∀ s k d, B (ix3 s k d) = K s k d) (s : Fin 3) (h1 h2 h3) :
    Book (View.ld (Val := Elt Ideal) (S := S3x1024x256) (e' := .f32) B
        (Rect.unit (s := S3x1024x256) ![s.val, 0, 0] ![1, 1024, 256] h1))
      (View.ld (Val := Elt Ideal) (S := S3x1024) (e' := .f32) S.2.2.2.2.2.2
        (Rect.unit (s := S3x1024) ![s.val, 0] ![1, 1024] h2))
      (View.ld (Val := Elt Ideal) (S := S3x1024x768) (e' := .bf16) S.2.2.2.2.2.1
        (Rect.unit (s := S3x1024x768) ![s.val, 0, 0] ![1, 1024, 768] h3)) (K s) where
  codes k d := (ld3 B s h1 k d).trans (hB s k d)
  norms k := (ld2 _ s h2 k).trans (hS.norms s k)
  pieces k j := (ld3 _ s h3 k j).trans (hS.pieces s k j)

/-- A row block read back after its three pieces were stored: the codes, then zeros. -/
theorem stored_apply {sig : RefSig} {κ : Kind} {sp : Space} (v : View sig κ sp S3x1024x768 .bf16) (s : Fin 3)
    (f : Fin 1024 → Fin 256 → EReal) (p0 p1 p2 : Vec Ideal S1x1024x256 .bf16) (L : List (View.Piece (Elt Ideal) S3x1024x768 .bf16))
    (hp0 : ∀ k d, p0 (ix3 0 k d) = f k d) (hp1 : ∀ k d, p1 (ix3 0 k d) = 0) (hp2 : ∀ k d, p2 (ix3 0 k d) = 0)
    (i0 i1 i2 i3) (k : Fin 1024) (j : Fin 768) :
    v.readCov (Val := Elt Ideal)
      (⟨Rect.unit (s := S3x1024x768) ![s.val, 0, 512] ![1, 1024, 256] i2, p2⟩
        :: ⟨Rect.unit (s := S3x1024x768) ![s.val, 0, 256] ![1, 1024, 256] i1, p1⟩
        :: ⟨Rect.unit (s := S3x1024x768) ![s.val, 0, 0] ![1, 1024, 256] i0, p0⟩ :: L)
      (Rect.unit (s := S3x1024x768) ![s.val, 0, 0] ![1, 1024, 768] i3).toLoadRect (ix3 0 k j)
      = if hj : j.val < 256 then f k ⟨j.val, hj⟩ else 0 := by
  have emb : ∀ (o n : ℕ) (i) (a : Fin 1024) (b : Fin n) (ho : o + n ≤ 768),
      (Rect.unit (s := S3x1024x768) ![s.val, 0, o] ![1, 1024, n] i).emb (ix3 0 a b) = ix3 s a ⟨o + b.val, by omega⟩ := by
    intro o n i a b ho
    funext c; apply Fin.ext; rw [Rect.emb_apply]
    fin_cases c
    · exact (Nat.add_zero _)
    · show 0 + 1 * a.val = a.val; omega
    · show o + 1 * b.val = o + b.val; omega
  rw [View.readCov_eq_canon']
  show View.canon _ ((Rect.unit (s := S3x1024x768) ![s.val, 0, 0] ![1, 1024, 768] i3).emb (ix3 0 k j)) = _
  rw [emb 0 768 i3 k j (by omega)]
  refine (View.canon_append_of_piecesOf (fun y => if hj : (y 2).val < 256 then f (y 1) ⟨(y 2).val, hj⟩ else 0) L
    [⟨Rect.unit (s := S3x1024x768) ![s.val, 0, 512] ![1, 1024, 256] i2, p2⟩,
      ⟨Rect.unit (s := S3x1024x768) ![s.val, 0, 256] ![1, 1024, 256] i1, p1⟩,
      ⟨Rect.unit (s := S3x1024x768) ![s.val, 0, 0] ![1, 1024, 256] i0, p0⟩] ⟨fun x => ?_, fun x => ?_, fun x => ?_, trivial⟩ _ ?_).trans ?_
  · change S1x1024x256.Idx at x
    idx_vars x
    obtain rfl : x0 = 0 := Subsingleton.elim _ _
    rw [emb 512 256 i2 x1 x2 (by omega)]
    refine (hp2 x1 x2).trans (Eq.symm ?_)
    apply dif_neg
    show ¬ 512 + x2.val < 256
    omega
  · change S1x1024x256.Idx at x
    idx_vars x
    obtain rfl : x0 = 0 := Subsingleton.elim _ _
    rw [emb 256 256 i1 x1 x2 (by omega)]
    refine (hp1 x1 x2).trans (Eq.symm ?_)
    apply dif_neg
    show ¬ 256 + x2.val < 256
    omega
  · change S1x1024x256.Idx at x
    idx_vars x
    obtain rfl : x0 = 0 := Subsingleton.elim _ _
    rw [emb 0 256 i0 x1 x2 (by omega)]
    refine (hp0 x1 x2).trans ?_
    simp
  · simp only [List.exists_mem_cons_iff, Rect.mem_set_unit]
    have hj := j.isLt
    rcases lt_or_ge j.val 256 with h | h
    · right; right; left
      intro a; fin_cases a <;> simp <;> omega
    rcases lt_or_ge j.val 512 with h' | h'
    · right; left
      intro a; fin_cases a <;> simp <;> omega
    · left
      intro a; fin_cases a <;> simp <;> omega
  · simp

/-- Codes that are finite by row are finite everywhere. -/
theorem real_of {f : Fin 1024 → Fin 256 → EReal} (hf : ∀ k d, Quant.IsReal (f k d)) {C : Vec Ideal S1x1024x256 .f32}
    (hC : ∀ k d, C (ix3 0 k d) = f k d) (i : S1x1024x256.Idx) : Quant.IsReal (C i) := by
  idx_vars i
  obtain rfl : i0 = 0 := Subsingleton.elim _ _
  rw [hC]; exact hf _ _

/-- A stage's codebook at the point that stores the pieces: they are read back from what was just stored. -/
theorem book_fill {sig : RefSig} {κ : Kind} {sp : Space} (v : View sig κ sp S3x1024x768 .bf16) (s : Fin 3)
    (f : Fin 1024 → Fin 256 → EReal) (hf : ∀ k d, Quant.IsReal (f k d)) (C : Vec Ideal S1x1024x256 .f32)
    (hC : ∀ k d, C (ix3 0 k d) = f k d) (L : List (View.Piece (Elt Ideal) S3x1024x768 .bf16)) (i0 i1 i2 i3) :
    Book C (norms (castC C)) (v.readCov (Val := Elt Ideal)
      (⟨Rect.unit (s := S3x1024x768) ![s.val, 0, 512] ![1, 1024, 256] i2,
          Tile.piece (subf (subf (castC C) (Tile.round (castC C))) (Tile.round (subf (castC C) (Tile.round (castC C)))))⟩
        :: ⟨Rect.unit (s := S3x1024x768) ![s.val, 0, 256] ![1, 1024, 256] i1, Tile.piece (Tile.round (subf (castC C) (Tile.round (castC C))))⟩
        :: ⟨Rect.unit (s := S3x1024x768) ![s.val, 0, 0] ![1, 1024, 256] i0, Tile.piece (Tile.round (castC C))⟩ :: L)
      (Rect.unit (s := S3x1024x768) ![s.val, 0, 0] ![1, 1024, 768] i3).toLoadRect) f where
  codes := hC
  norms k := by rw [norms_apply]; simp only [hC]
  pieces k j := stored_apply v s f _ _ _ L (fun k d => (piece0_apply C k d).trans (hC k d))
    (piece1_apply C (real_of hf hC)) (piece2_apply C (real_of hf hC)) i0 i1 i2 i3 k j

/-- A stage's codebook whose pieces are not read. -/
theorem book_bare (f : Fin 1024 → Fin 256 → EReal) (C : Vec Ideal S1x1024x256 .f32) (hC : ∀ k d, C (ix3 0 k d) = f k d) :
    Book C (norms (castC C)) (fun y => if hj : (y 2).val < 256 then f (y 1) ⟨(y 2).val, hj⟩ else 0) f where
  codes := hC
  norms k := by rw [norms_apply]; simp only [hC]
  pieces _ _ := rfl

/-- An index some of the last stores cover does not see the stores before them. -/
theorem canon_heads {s : Shape} {e : EltTy} (L : List (View.Piece (Elt Ideal) s e)) :
    ∀ (H : List (View.Piece (Elt Ideal) s e)) (y : s.Idx), (∃ p ∈ H, y ∈ p.1.set) → View.canon (H ++ L) y = View.canon H y
  | [], _, h => by obtain ⟨p, hp, _⟩ := h; exact absurd hp List.not_mem_nil
  | p :: H, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_heads L H y ?_
      obtain ⟨q, hq, hyq⟩ := h
      rcases List.mem_cons.mp hq with rfl | hq'
      · exact absurd hyq hm
      · exact ⟨q, hq', hyq⟩

/-- Three rows stored over an earlier fill hide it. -/
theorem rows_hide (w2 w1 w0 : Vec Ideal S1x1024 .f32) (p : View.Piece (Elt Ideal) S3x1024 .f32) (i2 i1 i0) (s : Fin 3) (k : Fin 1024) :
    View.canon [⟨Rect.unit (s := S3x1024) ![2, 0] ![1, 1024] i2, w2⟩, ⟨Rect.unit (s := S3x1024) ![1, 0] ![1, 1024] i1, w1⟩,
        ⟨Rect.unit (s := S3x1024) ![0, 0] ![1, 1024] i0, w0⟩, p] (ix2 s k)
      = View.canon [⟨Rect.unit (s := S3x1024) ![2, 0] ![1, 1024] i2, w2⟩, ⟨Rect.unit (s := S3x1024) ![1, 0] ![1, 1024] i1, w1⟩,
        ⟨Rect.unit (s := S3x1024) ![0, 0] ![1, 1024] i0, w0⟩] (ix2 s k) := by
  refine canon_heads [p] [_, _, _] _ ?_
  have hk := k.isLt
  simp only [List.exists_mem_cons_iff, Rect.mem_set_unit]
  fin_cases s
  · right; right; left
    intro a; fin_cases a <;> simp
  · right; left
    intro a; fin_cases a <;> simp
  · left
    intro a; fin_cases a <;> simp

/-- Past the first point, the rows written are the quantised rows. -/
theorem quant_next (c : Dev nD) (t : Fin cfg0.N) (h0 : ¬t.val % 4 = 0)
    (K : Fin 3 → Fin 1024 → Fin 256 → EReal) (Y : Fin 2048 → Fin 256 → EReal)
    (hB : ∀ s k d, iblk m c 1 t (ix3 s k d) = K s k d) (hY : ∀ i d, iblk m c 0 t (ix2 i d) = Y i d)
    (hS : Carried K (outsAt0 m c (t.val - 1) (Nat.lt_of_le_of_lt (Nat.sub_le _ _) t.isLt))) (i : Fin 2048) (d : Fin 256) :
    (outsAt0 m c t.val t.isLt).1 (ix2 i d) = Quant.quant K (Y i) d := by
  by_cases hc : t.val % 4 = 3 <;> [rw [outsAt0_C m c t h0 hc]; rw [outsAt0_B m c t h0 hc]] <;> frame_out
  all_goals
    generalize (outsAt0 m c (t.val - 1) (Nat.lt_of_le_of_lt (Nat.sub_le _ _) t.isLt)) = S at hS ⊢
    have b0 := book_ld hS _ hB 0 inb_S3x1024x256_S1x1024x256_0_0_0 inb_S3x1024_S1x1024_0_0 inb_S3x1024x768_S1x1024x768_0_0_0
    have b1 := book_ld hS _ hB 1 inb_S3x1024x256_S1x1024x256_1_0_0 inb_S3x1024_S1x1024_1_0 inb_S3x1024x768_S1x1024x768_1_0_0
    have b2 := book_ld hS _ hB 2 inb_S3x1024x256_S1x1024x256_2_0_0 inb_S3x1024_S1x1024_2_0 inb_S3x1024x768_S1x1024x768_2_0_0
    have hu := fun i d => (upper_apply (iblk m c 0 t) i d).trans (hY _ d)
    have hl := fun i d => (lower_apply (iblk m c 0 t) i d).trans (hY _ d)
    simp only [read_unread_whole]
    canon_tiles x h
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      rw [show i = ⟨1024 + x0.val, by omega⟩ from Fin.ext h0, show d = x1 from Fin.ext h1]
      exact half_quant b0 b1 b2 hl _ _
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      rw [show i = ⟨x0.val, by omega⟩ from Fin.ext h0, show d = x1 from Fin.ext h1]
      exact half_quant b0 b1 b2 hu _ _

/-- Past the first point, the numbers written are the rows' digits. -/
theorem digits_next (c : Dev nD) (t : Fin cfg0.N) (h0 : ¬t.val % 4 = 0)
    (K : Fin 3 → Fin 1024 → Fin 256 → EReal) (Y : Fin 2048 → Fin 256 → EReal)
    (hB : ∀ s k d, iblk m c 1 t (ix3 s k d) = K s k d) (hY : ∀ i d, iblk m c 0 t (ix2 i d) = Y i d)
    (hS : Carried K (outsAt0 m c (t.val - 1) (Nat.lt_of_le_of_lt (Nat.sub_le _ _) t.isLt))) (i : Fin 2048) :
    (outsAt0 m c t.val t.isLt).2.1 (ix3 0 i 0) = Quant.digits K (Y i) := by
  by_cases hc : t.val % 4 = 3 <;> [rw [outsAt0_C m c t h0 hc]; rw [outsAt0_B m c t h0 hc]] <;> frame_out
  all_goals
    generalize (outsAt0 m c (t.val - 1) (Nat.lt_of_le_of_lt (Nat.sub_le _ _) t.isLt)) = S at hS ⊢
    have b0 := book_ld hS _ hB 0 inb_S3x1024x256_S1x1024x256_0_0_0 inb_S3x1024_S1x1024_0_0 inb_S3x1024x768_S1x1024x768_0_0_0
    have b1 := book_ld hS _ hB 1 inb_S3x1024x256_S1x1024x256_1_0_0 inb_S3x1024_S1x1024_1_0 inb_S3x1024x768_S1x1024x768_1_0_0
    have b2 := book_ld hS _ hB 2 inb_S3x1024x256_S1x1024x256_2_0_0 inb_S3x1024_S1x1024_2_0 inb_S3x1024x768_S1x1024x768_2_0_0
    have hu := fun i d => (upper_apply (iblk m c 0 t) i d).trans (hY _ d)
    have hl := fun i d => (lower_apply (iblk m c 0 t) i d).trans (hY _ d)
    simp only [read_unread_whole]
    canon_tiles x h
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      obtain rfl : x0 = 0 := Subsingleton.elim _ _
      obtain rfl : x2 = 0 := Subsingleton.elim _ _
      rw [show i = ⟨1024 + x1.val, by omega⟩ from Fin.ext h1]
      exact half_digits b0 b1 b2 hl _
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      obtain rfl : x0 = 0 := Subsingleton.elim _ _
      obtain rfl : x2 = 0 := Subsingleton.elim _ _
      rw [show i = ⟨x1.val, by omega⟩ from Fin.ext h1]
      exact half_digits b0 b1 b2 hu _

/-- Past the first point, the counts grow by the codes picked. -/
theorem counts_next (c : Dev nD) (t : Fin cfg0.N) (h0 : ¬t.val % 4 = 0)
    (K : Fin 3 → Fin 1024 → Fin 256 → EReal) (Y : Fin 2048 → Fin 256 → EReal)
    (hB : ∀ s k d, iblk m c 1 t (ix3 s k d) = K s k d) (hY : ∀ i d, iblk m c 0 t (ix2 i d) = Y i d)
    (hS : Carried K (outsAt0 m c (t.val - 1) (Nat.lt_of_le_of_lt (Nat.sub_le _ _) t.isLt))) (s : Fin 3) (k : Fin 1024) :
    (outsAt0 m c t.val t.isLt).2.2.2.2.1 (ix2 s k) = (outsAt0 m c (t.val - 1) (Nat.lt_of_le_of_lt (Nat.sub_le _ _) t.isLt)).2.2.2.2.1 (ix2 s k) + ∑ i, Quant.unit (Quant.code K (Y i) s = k) := by
  by_cases hc : t.val % 4 = 3 <;> [rw [outsAt0_C m c t h0 hc]; rw [outsAt0_B m c t h0 hc]] <;> frame_out
  all_goals
    generalize (outsAt0 m c (t.val - 1) (Nat.lt_of_le_of_lt (Nat.sub_le _ _) t.isLt)) = S at hS ⊢
    have b0 := book_ld hS _ hB 0 inb_S3x1024x256_S1x1024x256_0_0_0 inb_S3x1024_S1x1024_0_0 inb_S3x1024x768_S1x1024x768_0_0_0
    have b1 := book_ld hS _ hB 1 inb_S3x1024x256_S1x1024x256_1_0_0 inb_S3x1024_S1x1024_1_0 inb_S3x1024x768_S1x1024x768_1_0_0
    have b2 := book_ld hS _ hB 2 inb_S3x1024x256_S1x1024x256_2_0_0 inb_S3x1024_S1x1024_2_0 inb_S3x1024x768_S1x1024x768_2_0_0
    have hu := fun i d => (upper_apply (iblk m c 0 t) i d).trans (hY _ d)
    have hl := fun i d => (lower_apply (iblk m c 0 t) i d).trans (hY _ d)
    simp only [read_unread_whole]
    rw [← sum_halves, ← add_assoc]
    canon_tiles x h
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      obtain rfl : x0 = 0 := Subsingleton.elim _ _
      obtain ⟨rfl, rfl⟩ : s = 2 ∧ k = x1 := ⟨Fin.ext h0, Fin.ext h1⟩
      refine (half_count2 b0 b1 b2 hu hl _ _).trans ?_
      rw [← ld2 S.2.2.2.2.1 2 inb_S3x1024_S1x1024_2_0]; rfl
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      obtain rfl : x0 = 0 := Subsingleton.elim _ _
      obtain ⟨rfl, rfl⟩ : s = 1 ∧ k = x1 := ⟨Fin.ext h0, Fin.ext h1⟩
      refine (half_count1 b0 b1 hu hl _ _).trans ?_
      rw [← ld2 S.2.2.2.2.1 1 inb_S3x1024_S1x1024_1_0]; rfl
    · simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
      idx_vars x
      obtain rfl : x0 = 0 := Subsingleton.elim _ _
      obtain ⟨rfl, rfl⟩ : s = 0 ∧ k = x1 := ⟨Fin.ext h0, Fin.ext h1⟩
      refine (half_count0 b0 hu hl _ _).trans ?_
      rw [← ld2 S.2.2.2.2.1 0 inb_S3x1024_S1x1024_0_0]; rfl

/-- Past the first point, the loss grows by the block's share. -/
theorem loss_next (c : Dev nD) (t : Fin cfg0.N) (h0 : ¬t.val % 4 = 0)
    (K : Fin 3 → Fin 1024 → Fin 256 → EReal) (Y : Fin 2048 → Fin 256 → EReal)
    (hB : ∀ s k d, iblk m c 1 t (ix3 s k d) = K s k d) (hY : ∀ i d, iblk m c 0 t (ix2 i d) = Y i d)
    (hS : Carried K (outsAt0 m c (t.val - 1) (Nat.lt_of_le_of_lt (Nat.sub_le _ _) t.isLt))) :
    (outsAt0 m c t.val t.isLt).2.2.1 (ix2 0 0) = (outsAt0 m c (t.val - 1) (Nat.lt_of_le_of_lt (Nat.sub_le _ _) t.isLt)).2.2.1 (ix2 0 0)
     + ((∑ i, Quant.gap K (Y i) 0) + (∑ i, Quant.gap K (Y i) 1) + ∑ i, Quant.gap K (Y i) 2) * Ideal.ofBits .f32 872415232#32 := by
  by_cases hc : t.val % 4 = 3 <;> [rw [outsAt0_C m c t h0 hc]; rw [outsAt0_B m c t h0 hc]] <;> frame_out
  all_goals
    generalize (outsAt0 m c (t.val - 1) (Nat.lt_of_le_of_lt (Nat.sub_le _ _) t.isLt)) = S at hS ⊢
    have b0 := book_ld hS _ hB 0 inb_S3x1024x256_S1x1024x256_0_0_0 inb_S3x1024_S1x1024_0_0 inb_S3x1024x768_S1x1024x768_0_0_0
    have b1 := book_ld hS _ hB 1 inb_S3x1024x256_S1x1024x256_1_0_0 inb_S3x1024_S1x1024_1_0 inb_S3x1024x768_S1x1024x768_1_0_0
    have b2 := book_ld hS _ hB 2 inb_S3x1024x256_S1x1024x256_2_0_0 inb_S3x1024_S1x1024_2_0 inb_S3x1024x768_S1x1024x768_2_0_0
    have hu := fun i d => (upper_apply (iblk m c 0 t) i d).trans (hY _ d)
    have hl := fun i d => (lower_apply (iblk m c 0 t) i d).trans (hY _ d)
    simp only [read_unread_whole]
    simp only [step29, step30, step31, step32, step33, step34, step37, step38, step39, step40, step41, step42,
        step43, step44, step45, step46, step47, step48, step49, step50, step51, step52, step53, step54,
        step55, step56, step57, step58, step59, step60, step61, step62, step63, step64, step65, step66,
        step67, step68, step69, step70, step71, step72, step73, step74, step75, step76, step77, step78,
        step81, step82, step83, step84, step85, step86, step87, step88, step89, step90, step91, step92,
        step93, step94, step95, step96, step97, step98, step99]
    rw [share_apply]
    refine (congrArg (fun g => S.2.2.1 (ix2 0 0) + g * Ideal.ofBits .f32 872415232#32) (half_gap b0 b1 b2 hu hl)).trans ?_
    rw [sum_halves fun i => Quant.gap K (Y i) 0, sum_halves fun i => Quant.gap K (Y i) 1, sum_halves fun i => Quant.gap K (Y i) 2]

/-- Past the first point, the norms and pieces are carried on. -/
theorem carried_next (c : Dev nD) (t : Fin cfg0.N) (h0 : ¬t.val % 4 = 0)
    (K : Fin 3 → Fin 1024 → Fin 256 → EReal) (Y : Fin 2048 → Fin 256 → EReal)
    (hB : ∀ s k d, iblk m c 1 t (ix3 s k d) = K s k d) (hY : ∀ i d, iblk m c 0 t (ix2 i d) = Y i d)
    (hS : Carried K (outsAt0 m c (t.val - 1) (Nat.lt_of_le_of_lt (Nat.sub_le _ _) t.isLt))) :
    Carried K (outsAt0 m c t.val t.isLt) := by
  by_cases hc : t.val % 4 = 3 <;> [rw [outsAt0_C m c t h0 hc]; rw [outsAt0_B m c t h0 hc]]
  all_goals exact ⟨hS.norms, hS.pieces⟩

/-- At the first point, the rows written are the quantised rows. -/
theorem quant_first (c : Dev nD) (t : Fin cfg0.N) (h0 : t.val % 4 = 0)
    (K : Fin 3 → Fin 1024 → Fin 256 → EReal) (hK : ∀ s k d, Quant.IsReal (K s k d)) (Y : Fin 2048 → Fin 256 → EReal)
    (hB : ∀ s k d, iblk m c 1 t (ix3 s k d) = K s k d) (hY : ∀ i d, iblk m c 0 t (ix2 i d) = Y i d) (i : Fin 2048) (d : Fin 256) :
    (outsAt0 m c t.val t.isLt).1 (ix2 i d) = Quant.quant K (Y i) d := by
  rw [outsAt0_A m c t h0 (by omega)]; frame_open
  simp (disch := decide) only [↓ View.readCov_skip, ↓ View.readCov_cons_toLoadRect, ↓ View.readCov_fill]
  frame_out
  have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
  generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
  have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
  generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
  have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
  generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
  generalize hP0 : (View.whole cc0_scratch1).readCov (Val := Elt Ideal) _ _ = P0
  generalize hP1 : (View.whole cc0_scratch1).readCov (Val := Elt Ideal) _ _ = P1
  generalize hP2 : (View.whole cc0_scratch1).readCov (Val := Elt Ideal) _ _ = P2
  have b0 : Book C0 (k0_pay5 C0) P0 (K 0) := by
    rw [← hP0]; exact book_fill _ 0 (K 0) (hK 0) C0 hC0 _ _ _ _ _
  have b1 : Book C1 (k0_pay13 C1) P1 (K 1) := by
    rw [← hP1]; exact book_fill _ 1 (K 1) (hK 1) C1 hC1 _ _ _ _ _
  have b2 : Book C2 (k0_pay21 C2) P2 (K 2) := by
    rw [← hP2]; exact book_fill _ 2 (K 2) (hK 2) C2 hC2 _ _ _ _ _
  have hu := fun i d => (upper_apply (iblk m c 0 t) i d).trans (hY _ d)
  have hl := fun i d => (lower_apply (iblk m c 0 t) i d).trans (hY _ d)
  canon_tiles x h
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    rw [show i = ⟨1024 + x0.val, by omega⟩ from Fin.ext h0, show d = x1 from Fin.ext h1]
    exact half_quant b0 b1 b2 hl _ _
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    rw [show i = ⟨x0.val, by omega⟩ from Fin.ext h0, show d = x1 from Fin.ext h1]
    exact half_quant b0 b1 b2 hu _ _

/-- At the first point, the numbers written are the rows' digits. -/
theorem digits_first (c : Dev nD) (t : Fin cfg0.N) (h0 : t.val % 4 = 0)
    (K : Fin 3 → Fin 1024 → Fin 256 → EReal) (hK : ∀ s k d, Quant.IsReal (K s k d)) (Y : Fin 2048 → Fin 256 → EReal)
    (hB : ∀ s k d, iblk m c 1 t (ix3 s k d) = K s k d) (hY : ∀ i d, iblk m c 0 t (ix2 i d) = Y i d) (i : Fin 2048) :
    (outsAt0 m c t.val t.isLt).2.1 (ix3 0 i 0) = Quant.digits K (Y i) := by
  rw [outsAt0_A m c t h0 (by omega)]; frame_open
  simp (disch := decide) only [↓ View.readCov_skip, ↓ View.readCov_cons_toLoadRect, ↓ View.readCov_fill]
  frame_out
  have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
  generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
  have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
  generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
  have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
  generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
  generalize hP0 : (View.whole cc0_scratch1).readCov (Val := Elt Ideal) _ _ = P0
  generalize hP1 : (View.whole cc0_scratch1).readCov (Val := Elt Ideal) _ _ = P1
  have b0 : Book C0 (k0_pay5 C0) P0 (K 0) := by
    rw [← hP0]; exact book_fill _ 0 (K 0) (hK 0) C0 hC0 _ _ _ _ _
  have b1 : Book C1 (k0_pay13 C1) P1 (K 1) := by
    rw [← hP1]; exact book_fill _ 1 (K 1) (hK 1) C1 hC1 _ _ _ _ _
  have b2 : Book C2 (k0_pay21 C2) _ (K 2) := book_bare (K 2) C2 hC2
  have hu := fun i d => (upper_apply (iblk m c 0 t) i d).trans (hY _ d)
  have hl := fun i d => (lower_apply (iblk m c 0 t) i d).trans (hY _ d)
  canon_tiles x h
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    obtain rfl : x0 = 0 := Subsingleton.elim _ _
    obtain rfl : x2 = 0 := Subsingleton.elim _ _
    rw [show i = ⟨1024 + x1.val, by omega⟩ from Fin.ext h1]
    exact half_digits b0 b1 b2 hl _
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    obtain rfl : x0 = 0 := Subsingleton.elim _ _
    obtain rfl : x2 = 0 := Subsingleton.elim _ _
    rw [show i = ⟨x1.val, by omega⟩ from Fin.ext h1]
    exact half_digits b0 b1 b2 hu _

/-- At the first point, the counts are those of the codes picked. -/
theorem counts_first (c : Dev nD) (t : Fin cfg0.N) (h0 : t.val % 4 = 0)
    (K : Fin 3 → Fin 1024 → Fin 256 → EReal) (hK : ∀ s k d, Quant.IsReal (K s k d)) (Y : Fin 2048 → Fin 256 → EReal)
    (hB : ∀ s k d, iblk m c 1 t (ix3 s k d) = K s k d) (hY : ∀ i d, iblk m c 0 t (ix2 i d) = Y i d) (s : Fin 3) (k : Fin 1024) :
    (outsAt0 m c t.val t.isLt).2.2.2.2.1 (ix2 s k) = 0 + ∑ i, Quant.unit (Quant.code K (Y i) s = k) := by
  rw [outsAt0_A m c t h0 (by omega)]; frame_open
  simp (disch := decide) only [↓ View.readCov_skip, ↓ View.readCov_cons_toLoadRect, ↓ View.readCov_fill]
  frame_out
  have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
  generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
  have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
  generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
  have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
  generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
  generalize hP0 : (View.whole cc0_scratch1).readCov (Val := Elt Ideal) _ _ = P0
  generalize hP1 : (View.whole cc0_scratch1).readCov (Val := Elt Ideal) _ _ = P1
  have b0 : Book C0 (k0_pay5 C0) P0 (K 0) := by
    rw [← hP0]; exact book_fill _ 0 (K 0) (hK 0) C0 hC0 _ _ _ _ _
  have b1 : Book C1 (k0_pay13 C1) P1 (K 1) := by
    rw [← hP1]; exact book_fill _ 1 (K 1) (hK 1) C1 hC1 _ _ _ _ _
  have b2 : Book C2 (k0_pay21 C2) _ (K 2) := book_bare (K 2) C2 hC2
  have hu := fun i d => (upper_apply (iblk m c 0 t) i d).trans (hY _ d)
  have hl := fun i d => (lower_apply (iblk m c 0 t) i d).trans (hY _ d)
  rw [← sum_halves, ← add_assoc, rows_hide]
  canon_tiles x h
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    obtain rfl : x0 = 0 := Subsingleton.elim _ _
    obtain ⟨rfl, rfl⟩ : s = 2 ∧ k = x1 := ⟨Fin.ext h0, Fin.ext h1⟩
    refine (half_count2 b0 b1 b2 hu hl _ _).trans ?_
    exact congrArg₂ _ (congrArg₂ _ ((ld2 (φ := .f32) (k0_pay3 (F := Ideal)) 2 inb_S3x1024_S1x1024_2_0 _).trans (zero_counts _ _)) rfl) rfl
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    obtain rfl : x0 = 0 := Subsingleton.elim _ _
    obtain ⟨rfl, rfl⟩ : s = 1 ∧ k = x1 := ⟨Fin.ext h0, Fin.ext h1⟩
    refine (half_count1 b0 b1 hu hl _ _).trans ?_
    exact congrArg₂ _ (congrArg₂ _ ((ld2 (φ := .f32) (k0_pay3 (F := Ideal)) 1 inb_S3x1024_S1x1024_1_0 _).trans (zero_counts _ _)) rfl) rfl
  · simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
    idx_vars x
    obtain rfl : x0 = 0 := Subsingleton.elim _ _
    obtain ⟨rfl, rfl⟩ : s = 0 ∧ k = x1 := ⟨Fin.ext h0, Fin.ext h1⟩
    refine (half_count0 b0 hu hl _ _).trans ?_
    exact congrArg₂ _ (congrArg₂ _ ((ld2 (φ := .f32) (k0_pay3 (F := Ideal)) 0 inb_S3x1024_S1x1024_0_0 _).trans (zero_counts _ _)) rfl) rfl

/-- At the first point, the loss is the block's share. -/
theorem loss_first (c : Dev nD) (t : Fin cfg0.N) (h0 : t.val % 4 = 0)
    (K : Fin 3 → Fin 1024 → Fin 256 → EReal) (hK : ∀ s k d, Quant.IsReal (K s k d)) (Y : Fin 2048 → Fin 256 → EReal)
    (hB : ∀ s k d, iblk m c 1 t (ix3 s k d) = K s k d) (hY : ∀ i d, iblk m c 0 t (ix2 i d) = Y i d) :
    (outsAt0 m c t.val t.isLt).2.2.1 (ix2 0 0) = 0
     + ((∑ i, Quant.gap K (Y i) 0) + (∑ i, Quant.gap K (Y i) 1) + ∑ i, Quant.gap K (Y i) 2) * Ideal.ofBits .f32 872415232#32 := by
  rw [outsAt0_A m c t h0 (by omega)]; frame_open
  simp (disch := decide) only [↓ View.readCov_skip, ↓ View.readCov_cons_toLoadRect, ↓ View.readCov_fill]
  frame_out
  have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
  generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
  have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
  generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
  have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
  generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
  generalize hP0 : (View.whole cc0_scratch1).readCov (Val := Elt Ideal) _ _ = P0
  generalize hP1 : (View.whole cc0_scratch1).readCov (Val := Elt Ideal) _ _ = P1
  have b0 : Book C0 (k0_pay5 C0) P0 (K 0) := by
    rw [← hP0]; exact book_fill _ 0 (K 0) (hK 0) C0 hC0 _ _ _ _ _
  have b1 : Book C1 (k0_pay13 C1) P1 (K 1) := by
    rw [← hP1]; exact book_fill _ 1 (K 1) (hK 1) C1 hC1 _ _ _ _ _
  have b2 : Book C2 (k0_pay21 C2) _ (K 2) := book_bare (K 2) C2 hC2
  have hu := fun i d => (upper_apply (iblk m c 0 t) i d).trans (hY _ d)
  have hl := fun i d => (lower_apply (iblk m c 0 t) i d).trans (hY _ d)
  simp only [step29, step30, step31, step32, step33, step34, step37, step38, step39, step40, step41, step42,
      step43, step44, step45, step46, step47, step48, step49, step50, step51, step52, step53, step54,
      step55, step56, step57, step58, step59, step60, step61, step62, step63, step64, step65, step66,
      step67, step68, step69, step70, step71, step72, step73, step74, step75, step76, step77, step78,
      step81, step82, step83, step84, step85, step86, step87, step88, step89, step90, step91, step92,
      step93, step94, step95, step96, step97, step98, step99]
  rw [share_apply]
  refine (congrArg₂ (fun o g => o + g * Ideal.ofBits .f32 872415232#32) zero_loss (half_gap b0 b1 b2 hu hl)).trans ?_
  rw [sum_halves fun i => Quant.gap K (Y i) 0, sum_halves fun i => Quant.gap K (Y i) 1, sum_halves fun i => Quant.gap K (Y i) 2]

/-- The first point stores the norms and pieces. -/
theorem carried_first (c : Dev nD) (t : Fin cfg0.N) (h0 : t.val % 4 = 0)
    (K : Fin 3 → Fin 1024 → Fin 256 → EReal) (hK : ∀ s k d, Quant.IsReal (K s k d)) (Y : Fin 2048 → Fin 256 → EReal)
    (hB : ∀ s k d, iblk m c 1 t (ix3 s k d) = K s k d) (hY : ∀ i d, iblk m c 0 t (ix2 i d) = Y i d) :
    Carried K (outsAt0 m c t.val t.isLt) := by
  constructor
  · intro s k
    rw [outsAt0_A m c t h0 (by omega)]; frame_out
    have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
    generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
    have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
    generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
    have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
    generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
    canon_tiles x h
    all_goals
      simp only [step5, step13, step21]
      idx_vars x
      obtain rfl : x0 = 0 := Subsingleton.elim _ _
      obtain rfl : k = x1 := Fin.ext h1
      rw [norms_apply]
    · obtain rfl : s = 2 := Fin.ext h0
      simp only [hC2]
    · obtain rfl : s = 1 := Fin.ext h0
      simp only [hC1]
    · obtain rfl : s = 0 := Fin.ext h0
      simp only [hC0]
  · intro s k j
    rw [outsAt0_A m c t h0 (by omega)]; frame_out
    have hC0 : ∀ k d, View.ld (Val := Elt Ideal) (S := S3x1024x256) (e' := .f32) (iblk m c 1 t) (Rect.unit (s := S3x1024x256) ![0, 0, 0] ![1, 1024, 256] inb_S3x1024x256_S1x1024x256_0_0_0) (ix3 0 k d) = K 0 k d := fun k d => (ld3 (iblk m c 1 t) 0 inb_S3x1024x256_S1x1024x256_0_0_0 k d).trans (hB 0 k d)
    generalize View.ld (Val := Elt Ideal) (S := S3x1024x256) (e' := .f32) (iblk m c 1 t) (Rect.unit (s := S3x1024x256) ![0, 0, 0] ![1, 1024, 256] inb_S3x1024x256_S1x1024x256_0_0_0) = C0 at hC0 ⊢
    have hC1 : ∀ k d, View.ld (Val := Elt Ideal) (S := S3x1024x256) (e' := .f32) (iblk m c 1 t) (Rect.unit (s := S3x1024x256) ![1, 0, 0] ![1, 1024, 256] inb_S3x1024x256_S1x1024x256_1_0_0) (ix3 0 k d) = K 1 k d := fun k d => (ld3 (iblk m c 1 t) 1 inb_S3x1024x256_S1x1024x256_1_0_0 k d).trans (hB 1 k d)
    generalize View.ld (Val := Elt Ideal) (S := S3x1024x256) (e' := .f32) (iblk m c 1 t) (Rect.unit (s := S3x1024x256) ![1, 0, 0] ![1, 1024, 256] inb_S3x1024x256_S1x1024x256_1_0_0) = C1 at hC1 ⊢
    have hC2 : ∀ k d, View.ld (Val := Elt Ideal) (S := S3x1024x256) (e' := .f32) (iblk m c 1 t) (Rect.unit (s := S3x1024x256) ![2, 0, 0] ![1, 1024, 256] inb_S3x1024x256_S1x1024x256_2_0_0) (ix3 0 k d) = K 2 k d := fun k d => (ld3 (iblk m c 1 t) 2 inb_S3x1024x256_S1x1024x256_2_0_0 k d).trans (hB 2 k d)
    generalize View.ld (Val := Elt Ideal) (S := S3x1024x256) (e' := .f32) (iblk m c 1 t) (Rect.unit (s := S3x1024x256) ![2, 0, 0] ![1, 1024, 256] inb_S3x1024x256_S1x1024x256_2_0_0) = C2 at hC2 ⊢
    have r0 := real_of (hK 0) hC0
    have r1 := real_of (hK 1) hC1
    have r2 := real_of (hK 2) hC2
    canon_tiles x h
    all_goals
      simp only [step20, step9, step10, step11, step17, step18, step19, step25, step26, step27]
      idx_vars x
      obtain rfl : x0 = 0 := Subsingleton.elim _ _
      obtain rfl : k = x1 := Fin.ext h1
    all_goals first
      | rw [piece2_apply _ r0, dif_neg (by omega)]
      | rw [piece2_apply _ r1, dif_neg (by omega)]
      | rw [piece2_apply _ r2, dif_neg (by omega)]
      | rw [piece1_apply _ r0, dif_neg (by omega)]
      | rw [piece1_apply _ r1, dif_neg (by omega)]
      | rw [piece1_apply _ r2, dif_neg (by omega)]
      | rw [piece0_apply, dif_pos (show j.val < 256 by omega)]
    · obtain rfl : s = 2 := Fin.ext h0
      exact (hC2 k x2).trans (congrArg (K 2 k) (Fin.ext h2.symm))
    · obtain rfl : s = 1 := Fin.ext h0
      exact (hC1 k x2).trans (congrArg (K 1 k) (Fin.ext h2.symm))
    · obtain rfl : s = 0 := Fin.ext h0
      exact (hC0 k x2).trans (congrArg (K 0 k) (Fin.ext h2.symm))

/-- The last point writes the perplexity of the counts it leaves. -/
theorem perp_last (c : Dev nD) (t : Fin cfg0.N) (h0 : ¬ t.val % 4 = 0)  (h1 : t.val % 4 = 3):
    (outsAt0 m c t.val t.isLt).2.2.2.1 = k0_pay1 (outsAt0 m c t.val t.isLt).2.2.2.2.1 := by
  rw [outsAt0_C m c t h0 h1]; frame_open
  simp (disch := decide) only [↓ View.readCov_skip, ↓ View.readCov_cons_toLoadRect, ↓ View.readCov_fill]
  frame_out
  refine congrArg k0_pay1 ?_
  rw [View.readCov_eq_canon']
  funext y
  refine congrArg (View.canon _) ?_
  funext a; apply Fin.ext
  change ((Rect.unit (s := S3x1024) ![0, 0] ![3, 1024] inb_S3x1024_S3x1024_0_0).emb y a).val = _
  rw [Rect.emb_apply]
  fin_cases a <;> exact (Nat.zero_add _).trans (Nat.one_mul _)

end Cert.KernelIdeal.Point

end
-- ==== Proof.RefArgmin.lean ====
module

public import proofs.«01_k».proof.Proof.RefStage
public import proofs.«01_k».proof.Proof.Spec
public import Idealize.ShloMosaic.Lib.Pointwise

@[expose] public section

set_option maxRecDepth 16384

/-! The index the reference takes for a row: the first at which the row of distances is least. -/

noncomputable section

namespace Cert.ReferenceIdeal.Value

open Cert.ReferenceIdeal Cert.ReferenceIdeal.Gen Idealize.ShloMosaic

theorem bit_of_not {p : Prop} {x : BitVec 1} (h : x = 1#1 ↔ p) (hp : ¬p) : x = 0#1 := by
  have := mt h.mp hp
  have h2 : ∀ y : BitVec 1, y ≠ 1#1 → y = 0#1 := by decide
  exact h2 x this

/-- The reducer keeps the earlier of two pairs: the smaller value, on equal values the smaller index. -/
theorem reducer_before (a b : EReal × BitVec 32) (ha : a.2.toNat < 1024) (hb : b.2.toNat < 1024) :
    (reducer_argmin_f32_i32 (F := Ideal) a b = a ∧ Quant.Before a b)
      ∨ (reducer_argmin_f32_i32 (F := Ideal) a b = b ∧ Quant.Before b a) := by
  obtain ⟨v, i⟩ := a
  obtain ⟨w, j⟩ := b
  have hij : IntOp.cmpi .slt i j = 1#1 ↔ i.toNat < j.toNat :=
    StableHlo.Predicate.slt_iff_toNat (by simp at ha; omega) (by simp at hb; omega)
  have hne : FloatOps.cmpf (F := Ideal) (φ := .f32) .une v v = 0#1 := by
    show BitVec.ofBool (decide (v ≠ v)) = 0#1; simp
  have hlt : FloatOps.cmpf (F := Ideal) (φ := .f32) .olt v w = BitVec.ofBool (decide (v < w)) := rfl
  have heq : FloatOps.cmpf (F := Ideal) (φ := .f32) .oeq v w = BitVec.ofBool (decide (v = w)) := rfl
  unfold reducer_argmin_f32_i32 Quant.Before
  simp only [hne, hlt, heq]
  rcases lt_trichotomy v w with h | h | h
  · left; simp [h, h.ne, Scalar.select, IntOp.ori, IntOp.andi]
  · subst h
    by_cases hlt : i.toNat < j.toNat
    · left; simp [hij.mpr hlt, Scalar.select, IntOp.ori, IntOp.andi, hlt.le]
    · right; simp [bit_of_not hij hlt, Scalar.select, IntOp.ori, IntOp.andi, not_lt.mp hlt]
  · right; simp [h, h.not_gt, h.ne', Scalar.select, IntOp.ori, IntOp.andi]

/-- What a fiber of a two-operand reduction holds: the pairs at the indices that drop to the given one. -/
theorem mem_fiber {s t : Shape} {α β : Type} {axes : List (Fin s.rank)} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩
    exact ⟨s.rowMajor i, by rwa [Equiv.symm_apply_apply], by rw [Equiv.symm_apply_apply]⟩

/-- The arg-reduction over the extended reals as the fold over the fiber. -/
theorem argReduce_fold {s t u : Shape} {φ : FTy} {β : Type} {axes : List (Fin s.rank)}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) (a : Ideal φ) (b : β)
    (ha : ix (Shape.Idx.first hu) = a) (hb : iy (Shape.Idx.first hu) = b) :
    Host.argReduce f x y ix iy h hu j = (Host.argReduceFiber x y h j).foldl f (a, b) := by
  rw [Ideal.argReduce_eq_reduce2, Host.reduce2_eq_foldl_fiber, ha, hb]

/-- The indices that drop to a row are that row's. -/
theorem drop_row (i : S8192x1024.Idx) (n : Fin 8192) :
    reducesTo_S8192x1024_S8192_d1.drop i = ix1 n ↔ ∃ k, i = ix2 n k := by
  have hd := Shape.ReducesTo.drop_apply_val_of_eq reducesTo_S8192x1024_S8192_d1 i 0 0
  constructor
  · intro h
    refine ⟨i 1, ?_⟩
    have h0 : (i 0).val = n.val := hd.symm.trans (congrArg Fin.val (congrFun h 0))
    funext a
    match a with
    | 0 => exact Fin.ext h0
    | 1 => rfl
  · rintro ⟨k, rfl⟩
    funext a
    match a with
    | 0 => exact Fin.ext hd

/-- The index the reference takes, as the arg-reduction. -/
theorem nearest_eq (d : FVec Ideal S8192x1024 .f32) :
    Stage.nearest d = fun j => (Host.argReduce (reducer_argmin_f32_i32 (F := Ideal)) d (iotaInDim S8192x1024 32 1)
      (constant S_ .f32 0x7F800000#32) (constantI S_ 32 0#32) reducesTo_S8192x1024_S8192_d1 h_S_ j).2 := by
  with_unfolding_all rfl

/-- The index the reference takes is the first at which the row of distances is least. -/
theorem nearest_apply (d : FVec Ideal S8192x1024 .f32) (f : Fin 1024 → EReal) (n : Fin 8192)
    (hd : ∀ k, d (ix2 n k) = f k) : Stage.nearest d (ix1 n) = BitVec.ofNat 32 (Quant.least f).val := by
  have hinit : (constant (F := Ideal) S_ .f32 0x7F800000#32) (Shape.Idx.first h_S_) = (⊤ : EReal) := by
    pointwise
    exact Quant.lit_top
  have hinit' : (constantI S_ 32 0#32) (Shape.Idx.first h_S_) = 0#32 := rfl
  have hiota : ∀ k, iotaInDim S8192x1024 32 1 (ix2 n k) = BitVec.ofNat 32 k.val := fun _ => rfl
  have hl := mem_fiber d (iotaInDim S8192x1024 32 1) reducesTo_S8192x1024_S8192_d1 (ix1 n)
  have hf := argReduce_fold (reducer_argmin_f32_i32 (F := Ideal)) d (iotaInDim S8192x1024 32 1)
    (constant S_ .f32 0x7F800000#32) (constantI S_ 32 0#32) reducesTo_S8192x1024_S8192_d1 h_S_ (ix1 n) _ _ hinit hinit'
  refine (congrFun (nearest_eq d) (ix1 n)).trans ((congrArg Prod.snd hf).trans ?_)
  generalize Host.argReduceFiber d (iotaInDim S8192x1024 32 1) reducesTo_S8192x1024_S8192_d1 (ix1 n) = l at hl
  refine Quant.foldl_least _ reducer_before f l ?_ ?_
  · intro p hp
    obtain ⟨i, hi, rfl⟩ := (hl p).mp hp
    obtain ⟨k, rfl⟩ := (drop_row i n).mp hi
    exact ⟨k, Prod.ext (hd k) (hiota k)⟩
  · intro k
    exact (hl _).mpr ⟨ix2 n k, (drop_row _ n).mpr ⟨k, rfl⟩, Prod.ext (hd k).symm (hiota k).symm⟩

end Cert.ReferenceIdeal.Value
-- ==== Proof.RefValue.lean ====
module

public import proofs.«01_k».proof.Proof.RefArgmin
public import Idealize.ShloMosaic.Lib.Pointwise
public import Idealize.ShloMosaic.Lib.Routing.Ops
public import Idealize.ShloMosaic.Lib.Routing.OpsPair

@[expose] public section

set_option maxRecDepth 16384

/-! The reference's results, entry by entry, in the mathematics of the quantizer. -/

noncomputable section

namespace Cert.ReferenceIdeal.Value

open Cert.ReferenceIdeal Cert.ReferenceIdeal.Gen Idealize.ShloMosaic

/-- The distances the reference computes. -/
theorem dist_apply (r : FVec Ideal S8192x256 .f32) (C : FVec Ideal S1024x256 .f32) (X : Fin 256 → EReal)
    (K : Fin 1024 → Fin 256 → EReal) (n : Fin 8192) (hr : ∀ d, r (ix2 n d) = X d) (hC : ∀ k d, C (ix2 k d) = K k d)
    (k : Fin 1024) : Stage.dist r C (ix2 n k) = Quant.sqdist K X k := by
  pointwise [Stage.dist]
  simp only [hr, hC, Quant.sqdist]

/-- The wrapped index is the index, where the index is that of a code. -/
theorem wrap_apply (i : IVec S8192 32) (n : Fin 8192) (p : Fin 1024) (hi : i (ix1 n) = BitVec.ofNat 32 p.val) :
    Stage.wrap i (ix2 n 0) = BitVec.ofNat 32 p.val := by
  pointwise [Stage.wrap]
  rw [hi]
  have hp : (BitVec.ofNat 32 p.val).toNat < 2 ^ (32 - 1) := by
    have := p.isLt; rw [BitVec.toNat_ofNat]; omega
  exact Routing.wrap_of_lt _ _ hp

/-- The index of a code lies inside. -/
theorem inside_apply (i : IVec S8192 32) (n : Fin 8192) (p : Fin 1024) (hi : i (ix1 n) = BitVec.ofNat 32 p.val) :
    Stage.inside (Stage.wrap i) (ix1 n) = 1#1 := by
  have hw := wrap_apply i n p hi
  have hp := p.isLt
  generalize Stage.wrap i = w at hw
  have h0 : IntOp.cmpi .sge (BitVec.ofNat 32 p.val) 0#32 = 1#1 :=
    (StableHlo.Predicate.sge_iff_toNat (by simp; omega) (by simp)).mpr (by simp)
  have h1 : IntOp.cmpi .sle (BitVec.ofNat 32 p.val) 1023#32 = 1#1 :=
    (StableHlo.Predicate.sle_iff_toNat (by simp; omega) (by simp)).mpr (by simp; omega)
  pointwise [Stage.inside]
  have hw' : ∀ x : Fin 1, w (ix2 n x) = BitVec.ofNat 32 p.val := fun x => by rw [Subsingleton.elim x 0, hw]
  simp [hw', h0, h1, IntOp.andi]

/-- The lookup at the index of a code finds that code. -/
theorem lookup_apply (C : FVec Ideal S1024x256 .f32) (K : Fin 1024 → Fin 256 → EReal) (i : IVec S8192 32) (n : Fin 8192)
    (p : Fin 1024) (hC : ∀ k d, C (ix2 k d) = K k d) (hi : i (ix1 n) = BitVec.ofNat 32 p.val) (d : Fin 256) :
    Stage.lookup C i (ix2 n d) = K p d := by
  have h1 := inside_apply i n p hi
  have hg := Routing.gather_row gather_S1024x256_S8192x1_S8192x256_1_0_n_n_0_1_1256 rfl rfl rfl rfl rfl C (Stage.wrap i)
    n d p (wrap_apply i n p hi) (by norm_num)
  unfold Stage.lookup
  pointwise
  rw [h1]
  exact hg.trans (hC p d)

/-- The frequencies the reference computes. -/
theorem freq_apply (i : IVec S8192 32) (c : Fin 8192 → Fin 1024) (hi : ∀ n, i (ix1 n) = BitVec.ofNat 32 (c n).val)
    (k : Fin 1024) : Stage.freq (F := Ideal) i (ix1 k) = Quant.freq c k := by
  pointwise [Stage.freq]
  simp only [hi, Quant.uitofp_eq, Quant.div_8192, Quant.freq]

/-- The spread the reference computes. -/
theorem spread_apply (p : FVec Ideal S1024 .f32) (f : Fin 1024 → EReal) (hp : ∀ k, p (ix1 k) = f k) (k : S_.Idx) :
    Stage.spread p k = Quant.spread f := by
  pointwise [Stage.spread]
  simp only [hp, Quant.spread]

/-- The loss of a stage the reference computes. -/
theorem loss_apply (d : FVec Ideal S8192x256 .f32) (g : Fin 8192 → EReal)
    (hd : ∀ n, ∑ k, d (ix2 n k) * d (ix2 n k) = g n) (k : S_.Idx) :
    Stage.loss d k = Ideal.ofBits .f32 1048576000#32 * Ideal.div (∑ n, g n) (Ideal.ofBits .f32 1241513984#32) := by
  pointwise [Stage.loss]
  simp only [hd]

section Chain

variable (z : FVec Ideal S8x1024x256 .f32) (B : FVec Ideal S3x1024x256 .f32)

/-- Row `n` of the rows to quantize. -/
def Z (n : Fin 8192) (d : Fin 256) : EReal := Stage.rows z (ix2 n d)

/-- The codebooks. -/
def K (s : Fin 3) (k : Fin 1024) (d : Fin 256) : EReal := B (ix3 s k d)

theorem codes0_apply (k : Fin 1024) (d : Fin 256) : Stage.codes0 B (ix2 k d) = K B 0 k d := by
  pointwise [Stage.codes0]; rfl
theorem codes1_apply (k : Fin 1024) (d : Fin 256) : Stage.codes1 B (ix2 k d) = K B 1 k d := by
  pointwise [Stage.codes1]; rfl
theorem codes2_apply (k : Fin 1024) (d : Fin 256) : Stage.codes2 B (ix2 k d) = K B 2 k d := by
  pointwise [Stage.codes2]; rfl

/-- One stage: from the rows left, the index taken. -/
theorem stage_idx (r : FVec Ideal S8192x256 .f32) (C : FVec Ideal S1024x256 .f32) (s : Fin 3) (n : Fin 8192)
    (hr : ∀ d, r (ix2 n d) = Quant.left (K B) (Z z n) s d) (hC : ∀ k d, C (ix2 k d) = K B s k d) :
    Stage.nearest (Stage.dist r C) (ix1 n) = BitVec.ofNat 32 (Quant.code (K B) (Z z n) s).val :=
  nearest_apply _ _ n fun k => dist_apply r C _ _ n hr hC k

theorem idx0_apply (n : Fin 8192) : Stage.idx0 z B (ix1 n) = BitVec.ofNat 32 (Quant.code (K B) (Z z n) 0).val :=
  stage_idx z B _ _ 0 n (fun _ => rfl) (codes0_apply B)

theorem q0_apply (n : Fin 8192) (d : Fin 256) : Stage.q0 z B (ix2 n d) = K B 0 (Quant.code (K B) (Z z n) 0) d :=
  lookup_apply _ _ _ n _ (codes0_apply B) (idx0_apply z B n) d

theorem rows1_apply (n : Fin 8192) (d : Fin 256) : Stage.rows1 z B (ix2 n d) = Quant.left (K B) (Z z n) 1 d :=
  congrArg (Z z n d - ·) (q0_apply z B n d)

theorem idx1_apply (n : Fin 8192) : Stage.idx1 z B (ix1 n) = BitVec.ofNat 32 (Quant.code (K B) (Z z n) 1).val :=
  stage_idx z B _ _ 1 n (rows1_apply z B n) (codes1_apply B)

theorem q1_apply (n : Fin 8192) (d : Fin 256) : Stage.q1 z B (ix2 n d) = K B 1 (Quant.code (K B) (Z z n) 1) d :=
  lookup_apply _ _ _ n _ (codes1_apply B) (idx1_apply z B n) d

theorem rows2_apply (n : Fin 8192) (d : Fin 256) : Stage.rows2 z B (ix2 n d) = Quant.left (K B) (Z z n) 2 d :=
  congrArg₂ (· - ·) (rows1_apply z B n d) (q1_apply z B n d)

theorem idx2_apply (n : Fin 8192) : Stage.idx2 z B (ix1 n) = BitVec.ofNat 32 (Quant.code (K B) (Z z n) 2).val :=
  stage_idx z B _ _ 2 n (rows2_apply z B n) (codes2_apply B)

theorem q2_apply (n : Fin 8192) (d : Fin 256) : Stage.q2 z B (ix2 n d) = K B 2 (Quant.code (K B) (Z z n) 2) d :=
  lookup_apply _ _ _ n _ (codes2_apply B) (idx2_apply z B n) d

variable (hz : ∀ i, Quant.IsReal (z i)) (hB : ∀ i, Quant.IsReal (B i))
include hz hB

theorem K_real (s : Fin 3) (k : Fin 1024) (d : Fin 256) : Quant.IsReal (K B s k d) := hB _

theorem Z_real (n : Fin 8192) (d : Fin 256) : Quant.IsReal (Z z n d) := hz _

/-- The first result: on finite inputs the rows' quantizations. -/
theorem resZ_apply (n : Fin 8192) (d : Fin 256) : Stage.resZ z B (ix2 n d) = Quant.quant (K B) (Z z n) d := by
  have hq : addf (addf (addf Stage.zq0 (Stage.q0 z B)) (Stage.q1 z B)) (Stage.q2 z B) (ix2 n d)
      = Quant.quant (K B) (Z z n) d := by
    pointwise [Stage.zq0]
    rw [q0_apply, q1_apply, q2_apply]
    simp [Quant.quant]
  unfold Stage.resZ
  generalize addf (addf (addf Stage.zq0 (Stage.q0 z B)) (Stage.q1 z B)) (Stage.q2 z B) = q at hq
  pointwise [Stage.outZ]
  rw [hq]
  exact Quant.add_sub_self (hz _) (Quant.quant_real (K_real z B hz hB) _ _)

/-- The second result: the loss. -/
theorem resL_apply (i : S1x1.Idx) : Stage.resL z B i = Quant.loss (K B) (Z z) := by
  have h := fun s n => (Quant.gap_eq (K := K B) (K_real z B hz hB) (Z_real z B hz hB n) s).symm
  have h0 := loss_apply (subf (Stage.rows z) (Stage.q0 z B)) _ fun n => (Finset.sum_congr rfl fun d _ => by
    rw [show subf (Stage.rows z) (Stage.q0 z B) (ix2 n d) = Quant.left (K B) (Z z n) 0 d - K B 0 (Quant.code (K B) (Z z n) 0) d
      from congrArg (Z z n d - ·) (q0_apply z B n d)]).trans (h 0 n)
  have h1 := loss_apply (subf (Stage.rows1 z B) (Stage.q1 z B)) _ fun n => (Finset.sum_congr rfl fun d _ => by
    rw [show subf (Stage.rows1 z B) (Stage.q1 z B) (ix2 n d) = Quant.left (K B) (Z z n) 1 d - K B 1 (Quant.code (K B) (Z z n) 1) d
      from congrArg₂ (· - ·) (rows1_apply z B n d) (q1_apply z B n d)]).trans (h 1 n)
  have h2 := loss_apply (subf (Stage.rows2 z B) (Stage.q2 z B)) _ fun n => (Finset.sum_congr rfl fun d _ => by
    rw [show subf (Stage.rows2 z B) (Stage.q2 z B) (ix2 n d) = Quant.left (K B) (Z z n) 2 d - K B 2 (Quant.code (K B) (Z z n) 2) d
      from congrArg₂ (· - ·) (rows2_apply z B n d) (q2_apply z B n d)]).trans (h 2 n)
  unfold Stage.resL Quant.loss
  generalize Stage.loss (subf (Stage.rows z) (Stage.q0 z B)) = l0 at h0
  generalize Stage.loss (subf (Stage.rows1 z B) (Stage.q1 z B)) = l1 at h1
  generalize Stage.loss (subf (Stage.rows2 z B) (Stage.q2 z B)) = l2 at h2
  pointwise [Stage.outL, Stage.zero]
  rw [h0, h1, h2]

omit hz hB

/-- The third result: the codes as digits. -/
theorem resC_apply (a : Fin 4) (b : Fin 2048) (c : Fin 1) :
    Stage.resC z B (ix3 a b c) = Quant.digits (K B) (Z z ⟨a.val * 2048 + b.val, by omega⟩) := by
  have h0 := idx0_apply z B
  have h1 := idx1_apply z B
  have h2 := idx2_apply z B
  unfold Stage.resC
  generalize Stage.idx0 z B = i0 at h0
  generalize Stage.idx1 z B = i1 at h1
  generalize Stage.idx2 z B = i2 at h2
  pointwise [Stage.outC]
  rw [h0, h1, h2]; rfl

/-- The fourth result: the perplexity. -/
theorem resP_apply (i : S1x1.Idx) : Stage.resP z B i = Quant.perp (K B) (Z z) := by
  have h0 := spread_apply _ _ (freq_apply _ _ (idx0_apply z B))
  have h1 := spread_apply _ _ (freq_apply _ _ (idx1_apply z B))
  have h2 := spread_apply _ _ (freq_apply _ _ (idx2_apply z B))
  unfold Stage.resP Quant.perp
  generalize Stage.spread (F := Ideal) (Stage.freq (Stage.idx0 z B)) = l0 at h0
  generalize Stage.spread (F := Ideal) (Stage.freq (Stage.idx1 z B)) = l1 at h1
  generalize Stage.spread (F := Ideal) (Stage.freq (Stage.idx2 z B)) = l2 at h2
  pointwise [Stage.outP, Stage.zero]
  rw [h0, h1, h2]

end Chain

end Cert.ReferenceIdeal.Value
-- ==== Proof.Grid.lean ====
module

public import proofs.«01_k».proof.Proof.Point
public import proofs.«01_k».proof.Proof.Gen.KernelIdeal.Value
public import proofs.«01_k».proof.Proof.RefValue
public import Idealize.ShloMosaic.Lib.Claim

@[expose] public section

set_option maxRecDepth 16384

/-!
The sweep over the four points of the grid: each point writes the quantizations and the code numbers of its own
block of rows, and the tallies after the last point are those of all rows.
-/

noncomputable section

namespace Cert.KernelIdeal.Point

open Cert.KernelIdeal Cert.KernelIdeal.Gen Cert.KernelIdeal.Tile Idealize.ShloMosaic Idealize.ShloMosaic.TcCoe Idealize.SL.Sem

variable (m : (ℓ : Loc nD τ sig) → Buf (Elt Ideal) ℓ)

/-- The rows' block at point `t` is block `t`. -/
theorem idx0 : ∀ t : Fin cfg0.N, win0_0.index t = ![t.val, 0] := (by decide +kernel : ∀ t : Fin grid0.N, _)

/-- The codes' block is the whole array at every point. -/
theorem idx1 : ∀ t : Fin cfg0.N, win0_1.index t = ![0, 0, 0] := (by decide +kernel : ∀ t : Fin grid0.N, _)

/-- The codes the run starts with. -/
abbrev codes (c : Dev nD) := Cert.ReferenceIdeal.Value.K (m ((c : Thread nD τ).loc main_arg1))

/-- The rows the run starts with. -/
abbrev rows (c : Dev nD) := Cert.ReferenceIdeal.Value.Z (m ((c : Thread nD τ).loc main_arg0))

/-- The rows of block `n`. -/
abbrev block (c : Dev nD) (n : Fin 4) (i : Fin 2048) : Fin 256 → EReal := rows m c ⟨n.val * 2048 + i.val, by omega⟩

/-- Point `n` of the grid. -/
abbrev pt (n : Fin 4) : Fin cfg0.N := ⟨n.val, lt_of_lt_of_eq n.isLt N_0.symm⟩

/-- The state after point `n`. -/
abbrev st (c : Dev nD) (n : Fin 4) : St := outsAt0 m c (pt n).val (pt n).isLt

/-- The rows a point reads. -/
theorem rows_read (c : Dev nD) (n : Fin 4) (i : Fin 2048) (d : Fin 256) : iblk m c 0 (pt n) (ix2 i d) = block m c n i d := by
  have e0 := idx0
  have hi := i.isLt
  have hd := d.isLt
  have ht := n.isLt
  have e : ((cfg0.win 0).blk (pt n)).view.emb (ix2 i d) = ix2 ⟨n.val * 2048 + i.val, by omega⟩ d := by
    blk_ext [e0]
  blk_simp [iblk]
  entry_read
  exact congrArg (shapeCast _ (m ((c : Thread nD τ).loc main_arg0)) shapeCasts_S8x1024x256_S8192x256) e

/-- The codes a point reads. -/
theorem codes_read (c : Dev nD) (t : Fin cfg0.N) (s : Fin 3) (k : Fin 1024) (d : Fin 256) :
    iblk m c 1 t (ix3 s k d) = codes m c s k d := by
  have e1 := idx1
  have e : ((cfg0.win 1).blk t).view.emb (ix3 s k d) = ix3 s k d := by
    blk_ext [e1]
  blk_simp [iblk]
  rw [V_main_arg1]
  exact congrArg (m ((c : Thread nD τ).loc main_arg1)) e

/-- A sum over all rows is that over the four blocks. -/
theorem sum_blocks (g : Fin 8192 → EReal) :
    ∑ n, g n = (∑ i : Fin 2048, g ⟨(0 : Fin 4).val * 2048 + i.val, by omega⟩) + (∑ i : Fin 2048, g ⟨(1 : Fin 4).val * 2048 + i.val, by omega⟩)
      + (∑ i : Fin 2048, g ⟨(2 : Fin 4).val * 2048 + i.val, by omega⟩) + ∑ i : Fin 2048, g ⟨(3 : Fin 4).val * 2048 + i.val, by omega⟩ := by
  rw [Fin.sum_univ_add (a := 6144) (b := 2048) g, Fin.sum_univ_add (a := 4096) (b := 2048), Fin.sum_univ_add (a := 2048) (b := 2048)]
  refine congrArg₂ _ (congrArg₂ _ (congrArg₂ _ ?_ ?_) ?_) ?_ <;>
    exact Finset.sum_congr rfl fun i _ => congrArg g (Fin.ext (by simp <;> omega))

/-- A tally over the four points, from what each adds. -/
theorem tally_end (a p : Fin 4 → EReal) (h0 : a 0 = 0 + p 0) (h : ∀ n : Fin 3, a n.succ = a n.castSucc + p n.succ) :
    a 3 = p 0 + p 1 + p 2 + p 3 := by
  rw [show a 3 = a 2 + p 3 from h 2, show a 2 = a 1 + p 2 from h 1, show a 1 = a 0 + p 1 from h 0, h0, zero_add]

section Run

variable (hK : ∀ c s k d, Quant.IsReal (codes m c s k d))

include hK

/-- The norms and pieces are carried through the grid. -/
theorem carried (c : Dev nD) (n : Fin 4) : Carried (codes m c) (st m c n) := by
  have first : Carried (codes m c) (st m c 0) :=
    carried_first m c (pt 0) rfl _ (hK c) _ (codes_read m c _) (rows_read m c 0)
  have next : ∀ n : Fin 3, Carried (codes m c) (st m c n.castSucc) → Carried (codes m c) (st m c n.succ) := fun n h =>
    carried_next m c (pt n.succ) (by simp; omega) _ _ (codes_read m c _) (rows_read m c _) h
  match n with
  | 0 => exact first
  | 1 => exact next 0 first
  | 2 => exact next 1 (next 0 first)
  | 3 => exact next 2 (next 1 (next 0 first))

/-- The rows a point writes. -/
theorem quant_at (c : Dev nD) (n : Fin 4) (i : Fin 2048) (d : Fin 256) :
    (st m c n).1 (ix2 i d) = Quant.quant (codes m c) (block m c n i) d := by
  refine Fin.cases ?_ (fun n => ?_) n
  · exact quant_first m c (pt 0) rfl _ (hK c) _ (codes_read m c _) (rows_read m c 0) i d
  · exact quant_next m c (pt n.succ) (by simp; omega) _ _ (codes_read m c _) (rows_read m c _) (carried m hK c n.castSucc) i d

/-- The numbers a point writes. -/
theorem digits_at (c : Dev nD) (n : Fin 4) (i : Fin 2048) :
    (st m c n).2.1 (ix3 0 i 0) = Quant.digits (codes m c) (block m c n i) := by
  refine Fin.cases ?_ (fun n => ?_) n
  · exact digits_first m c (pt 0) rfl _ (hK c) _ (codes_read m c _) (rows_read m c 0) i
  · exact digits_next m c (pt n.succ) (by simp; omega) _ _ (codes_read m c _) (rows_read m c _) (carried m hK c n.castSucc) i

/-- The counts after the last point are those of all rows. -/
theorem counts_end (c : Dev nD) (s : Fin 3) (k : Fin 1024) :
    (st m c 3).2.2.2.2.1 (ix2 s k) = ∑ n, Quant.unit (Quant.code (codes m c) (rows m c n) s = k) := by
  have h := tally_end (fun n => (st m c n).2.2.2.2.1 (ix2 s k))
    (fun n => ∑ i, Quant.unit (Quant.code (codes m c) (block m c n i) s = k))
    (counts_first m c (pt 0) rfl _ (hK c) _ (codes_read m c _) (rows_read m c 0) s k)
    (fun n => counts_next m c (pt n.succ) (by simp; omega) _ _ (codes_read m c _) (rows_read m c _) (carried m hK c n.castSucc) s k)
  exact h.trans (sum_blocks fun n => Quant.unit (Quant.code (codes m c) (rows m c n) s = k)).symm

/-- The perplexity after the last point. -/
theorem perp_end (c : Dev nD) : (st m c 3).2.2.2.1 (ix2 0 0) = Quant.perp (codes m c) (rows m c) := by
  have h := perp_apply (st m c 3).2.2.2.2.1 (fun s k => ∑ n, Quant.unit (Quant.code (codes m c) (rows m c n) s = k))
    (counts_end m hK c)
  exact (congrFun (perp_last m c (pt 3) (by decide) rfl) _).trans h

variable (hZ : ∀ c n d, Quant.IsReal (rows m c n d))

include hZ

/-- The loss after the last point. -/
theorem loss_end (c : Dev nD) : (st m c 3).2.2.1 (ix2 0 0) = Quant.loss (codes m c) (rows m c) := by
  have h := tally_end (fun n => (st m c n).2.2.1 (ix2 0 0))
    (fun n => ((∑ i, Quant.gap (codes m c) (block m c n i) 0) + (∑ i, Quant.gap (codes m c) (block m c n i) 1)
      + ∑ i, Quant.gap (codes m c) (block m c n i) 2) * Ideal.ofBits .f32 872415232#32)
    (loss_first m c (pt 0) rfl _ (hK c) _ (codes_read m c _) (rows_read m c 0))
    (fun n => loss_next m c (pt n.succ) (by simp; omega) _ _ (codes_read m c _) (rows_read m c _) (carried m hK c n.castSucc))
  refine h.trans ?_
  clear h
  choose g hg using fun n => Quant.gap_real (K := codes m c) (hK c) (hZ c n)
  unfold Quant.loss
  rw [sum_blocks fun n => Quant.gap (codes m c) (rows m c n) 0, sum_blocks fun n => Quant.gap (codes m c) (rows m c n) 1,
    sum_blocks fun n => Quant.gap (codes m c) (rows m c n) 2]
  simp only [hg, Quant.coe_sum]
  rw [Quant.lit_scale, Quant.lit_quarter, Quant.lit_2097152, Ideal.div_coe (by norm_num), Ideal.div_coe (by norm_num), Ideal.div_coe (by norm_num)]
  rw [zero_add]
  simp only [← EReal.coe_add, ← EReal.coe_mul]
  congr 1
  ring

end Run

end Cert.KernelIdeal.Point
-- ==== Proof.Final.lean ====
module

public import proofs.«01_k».proof.Proof.Grid

@[expose] public section

set_option maxRecDepth 16384

/-!
The four arrays the kernel returns are the four results of the reference.
-/

noncomputable section

namespace Cert.KernelIdeal.Point

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The fold over the points up to point `n` is the state after it. -/
theorem fold_st (c : Dev nD) (n : Fin 4) (k : ℕ) (hk : k = n.val) (h : 0 + k < cfg0.N) :
    Pipeline.accAt (fun n h => stAt0 m c n h junk0) (stAt0 m c) 0 k h = st m c n := by
  subst hk
  exact (outsAt0_sweep m c n.val (pt n).isLt).symm

variable (hz : ∀ c : Dev nD, ∀ i, Quant.IsReal (m ((c : Thread nD τ).loc main_arg0) i))
  (hB : ∀ c : Dev nD, ∀ i, Quant.IsReal (m ((c : Thread nD τ).loc main_arg1) i))

include hB in
/-- The codes are real numbers. -/
theorem codes_real (c : Dev nD) (s : Fin 3) (k : Fin 1024) (d : Fin 256) : Quant.IsReal (codes m c s k d) := hB c _

include hz in
/-- The rows are real numbers. -/
theorem rows_real (c : Dev nD) (n : Fin 8192) (d : Fin 256) : Quant.IsReal (rows m c n d) := hz c _

include hz hB

/-- The first result is the reference's. -/
theorem out_z (c : Dev nD) :
    G2 m c = Cert.ReferenceIdeal.Stage.resZ (F := Ideal) (m ((c : Thread nD τ).loc main_arg0)) (m ((c : Thread nD τ).loc main_arg1)) := by
  funext i
  idx_vars i
  have hn := i0.isLt
  have hd := i1.isLt
  have hp : pt2Of (ix2 i0 i1) = i0.val / 2048 := by
    show 1 * (i0.val / 2048 - 0) + 1 * (i1.val / 256 - 0) = _
    omega
  have hl : loc2Of (ix2 i0 i1) = ix2 ⟨i0.val % 2048, Nat.mod_lt _ (by decide)⟩ i1 := by
    funext a
    apply Fin.ext
    match a with
    | ⟨0, _⟩ => rfl
    | ⟨1, _⟩ => exact Nat.mod_eq_of_lt hd
  have hN : cfg0.N = 4 := N_0
  refine (dif_pos (by rw [hp, hN]; omega)).trans ?_
  rw [fold_st m c ⟨i0.val / 2048, by omega⟩ _ hp, hl, quant_at m (codes_real m hB)]
  refine Eq.trans ?_ (Cert.ReferenceIdeal.Value.resZ_apply _ _ (hz c) (hB c) i0 i1).symm
  exact congrArg (fun r => Quant.quant (codes m c) (rows m c r) i1) (Fin.ext (by simp only; omega))

/-- The third result, the code numbers, is the reference's. -/
theorem out_digits (c : Dev nD) :
    G3 m c = Cert.ReferenceIdeal.Stage.resC (F := Ideal) (m ((c : Thread nD τ).loc main_arg0)) (m ((c : Thread nD τ).loc main_arg1)) := by
  funext i
  idx_vars i
  obtain rfl : i2 = 0 := Subsingleton.elim _ _
  have hn := i1.isLt
  have hp : pt3Of (ix3 i0 i1 0) = i0.val := by
    show 1 * (i0.val / 1 - 0) + 1 * (i1.val / 2048 - 0) + 1 * (0 / 1 - 0) = _
    omega
  have hl : loc3Of (ix3 i0 i1 0) = ix3 0 i1 0 := by
    funext k
    apply Fin.ext
    match k with
    | ⟨0, _⟩ => exact Nat.mod_one _
    | ⟨1, _⟩ => exact Nat.mod_eq_of_lt hn
    | ⟨2, _⟩ => rfl
  have hN : cfg0.N = 4 := N_0
  refine (dif_pos (by rw [hp, hN]; exact i0.isLt)).trans ?_
  rw [fold_st m c i0 _ hp, hl, digits_at m (codes_real m hB)]
  exact (Cert.ReferenceIdeal.Value.resC_apply _ _ i0 i1 0).symm

/-- The second result, the loss, is the reference's. -/
theorem out_loss (c : Dev nD) :
    G4 m c = Cert.ReferenceIdeal.Stage.resL (F := Ideal) (m ((c : Thread nD τ).loc main_arg0)) (m ((c : Thread nD τ).loc main_arg1)) := by
  rw [G4_last, fold_st m c 3 3 rfl]
  funext i
  idx_vars i
  obtain rfl : i0 = 0 := Subsingleton.elim _ _
  obtain rfl : i1 = 0 := Subsingleton.elim _ _
  exact (loss_end m (codes_real m hB) (rows_real m hz) c).trans (Cert.ReferenceIdeal.Value.resL_apply _ _ (hz c) (hB c) _).symm

/-- The fourth result, the perplexity, is the reference's. -/
theorem out_perp (c : Dev nD) :
    G5 m c = Cert.ReferenceIdeal.Stage.resP (F := Ideal) (m ((c : Thread nD τ).loc main_arg0)) (m ((c : Thread nD τ).loc main_arg1)) := by
  rw [G5_last, fold_st m c 3 3 rfl]
  funext i
  idx_vars i
  obtain rfl : i0 = 0 := Subsingleton.elim _ _
  obtain rfl : i1 = 0 := Subsingleton.elim _ _
  exact (perp_end m (codes_real m hB) c).trans (Cert.ReferenceIdeal.Value.resP_apply _ _ _).symm

end Cert.KernelIdeal.Point
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Finite
public import proofs.«01_k».proof.Proof.Final

@[expose] public section

noncomputable section

namespace Cert.Proof

open Idealize.ShloMosaic Idealize.SL.Sem

/-- The reference runs, its arguments end unchanged, and no counter is left raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun _ h => ⟨fun c => (h c).2.2.2.2, sem_eq_zero_of_no_sems rfl _⟩)
    (Cert.ReferenceIdeal.Run.run (F := Ideal) m g)

/-- On finite arguments the kernel and the reference end with equal results. -/
theorem equal : @Cert.algebraic_KernelIdeal_ReferenceIdeal_pre_finite Cert.KernelIdeal.Gen.facts Cert.ReferenceIdeal.Gen.facts
    Cert.Pre_finite.shapes := by
  intro m g m' g' hpre hagree
  have hz := fun c => (Cert.Pre_finite.reals _ _ (hpre c)).1
  have hB := fun c => (Cert.Pre_finite.reals _ _ (hpre c)).2
  refine ⟨fun c => Cert.KernelIdeal.Value.G2 m c, fun c => Cert.KernelIdeal.Value.G4 m c, fun c => Cert.KernelIdeal.Value.G3 m c,
    fun c => Cert.KernelIdeal.Value.G5 m c, ?_, ?_⟩
  · refine (θ_run Cert.KernelIdeal.defs _ _).mono (fun _ h c => ?_) (Cert.KernelIdeal.Value.run (F := Ideal) m g)
    obtain ⟨h0, h1, h2, h3, h4⟩ := h c
    exact ⟨h0, h2, h1, h3, h4⟩
  · refine (θ_run Cert.ReferenceIdeal.defs _ _).mono (fun _ h c => ?_) (Cert.ReferenceIdeal.Run.run (F := Ideal) m' g')
    have h' := h c
    rw [(hagree c).1, (hagree c).2] at h'
    obtain ⟨h0, h1, h2, h3, h4, h5⟩ := h'
    exact ⟨h0.trans (Cert.KernelIdeal.Point.out_z m hz hB c).symm, h1.trans (Cert.KernelIdeal.Point.out_loss m hz hB c).symm,
      h2.trans (Cert.KernelIdeal.Point.out_digits m hz hB c).symm, h3.trans (Cert.KernelIdeal.Point.out_perp m hz hB c).symm,
      h4.trans (hagree c).1.symm, h5.trans (hagree c).2.symm⟩

theorem claim : Cert.Claim :=
  ⟨Cert.Kernel.Gen.facts, Cert.KernelIdeal.Gen.facts, Cert.ReferenceIdeal.Gen.facts, Cert.Pre_finite.shapes,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    IdealRules.bf16_pack.statement _, equal⟩

end Cert.Proof

end
